-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![32768, 1024]⟩ ⟨2, ![65536, 1024]⟩ (Layout.meshBlock [2, 2, 4] ![[1], []] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S32768x1024 : Shape := ⟨2, ![32768, 1024]⟩
abbrev S65536x1024 : Shape := ⟨2, ![65536, 1024]⟩
abbrev S2x1024x1024 : Shape := ⟨3, ![2, 1024, 1024]⟩
abbrev S4x1024x1024 : Shape := ⟨3, ![4, 1024, 1024]⟩
abbrev S2 : Shape := ⟨1, ![2]⟩
abbrev S4 : Shape := ⟨1, ![4]⟩
abbrev S16 : Shape := ⟨1, ![16]⟩
abbrev S1 : Shape := ⟨1, ![1]⟩
abbrev S_ : Shape := ⟨0, ![]⟩
abbrev S1x1024x1024 : Shape := ⟨3, ![1, 1024, 1024]⟩
abbrev S1024x1024 : Shape := ⟨2, ![1024, 1024]⟩

abbrev nBuf : Space → Nat
  | .hbm => 2
  | .vmem => 4
  | .smem => 0
  | _ => 0

abbrev bufTy : (tb : Table) → Fin (tcTables nBuf tb) → BufTy
  | .hbm, ⟨0, _⟩ => ⟨S32768x1024, .f32⟩
  | .hbm, ⟨1, _⟩ => ⟨S65536x1024, .bf16⟩
  | .local _ .vmem, ⟨0, _⟩ => ⟨S2x1024x1024, .f32⟩
  | .local _ .vmem, ⟨1, _⟩ => ⟨S4x1024x1024, .bf16⟩
  | .local _ .vmem, ⟨2, _⟩ => ⟨S2x1024x1024, .f32⟩
  | .local _ .vmem, ⟨3, _⟩ => ⟨S2x1024x1024, .bf16⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 1 → Bool
  | ⟨0, _⟩ => false
  | _ => false

abbrev dmaSemScoped : Fin 74 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | _ => false

abbrev sig : RefSig :=
  (ofTc nBuf bufTy 1 74 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_scratch0 : Ref sig .tc := ⟨.vmem, 0, rfl⟩
abbrev cc0_scratch1 : Ref sig .tc := ⟨.vmem, 1, rfl⟩
abbrev cc0_scratch2 : Ref sig .tc := ⟨.vmem, 2, rfl⟩
abbrev cc0_scratch3 : Ref sig .tc := ⟨.vmem, 3, rfl⟩
abbrev barrier0 : Sem sig := 0

abbrev nD : Nat := 16
abbrev τ : Topo := Topo.v7x

variable {F : FTy → Type} [FloatOps F]

abbrev grid0 : Pipeline.Grid := .none

def k0_off1 (d0 : Dev nD) (c0_i32_20 : BitVec 32) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_10 : BitVec 32 := 2#32
  let c0_i32_11 : BitVec 32 := 0#32
  let v23 : BitVec 1 := Scalar.cmpi .eq c2_i32_10 c0_i32_11
  let c1_i32_12 : BitVec 32 := 1#32
  let v24 : BitVec 32 := Scalar.select v23 c1_i32_12 c2_i32_10
  let v25 : BitVec 32 := Scalar.remsi v8 v24
  let c0_i32_14 : BitVec 32 := 0#32
  let v27 : BitVec 1 := Scalar.cmpi .slt v25 c0_i32_14
  let c0_i32_15 : BitVec 32 := 0#32
  let v28 : BitVec 1 := Scalar.cmpi .slt v24 c0_i32_15
  let v29 : BitVec 1 := Scalar.xori v27 v28
  let c0_i32_13 : BitVec 32 := 0#32
  let v26 : BitVec 1 := Scalar.cmpi .ne v25 c0_i32_13
  let v30 : BitVec 1 := Scalar.andi v29 v26
  let v31 : BitVec 32 := Scalar.addi v25 v24
  let v32 : BitVec 32 := Scalar.select v30 v31 v25
  let c16384_i32 : BitVec 32 := 16384#32
  let v36 : BitVec 32 := Scalar.muli v32 c16384_i32
  let v39 : BitVec 32 := Scalar.addi v36 c0_i32_20
  let c0_i32_25 : BitVec 32 := 0#32
  ![v39.toNat, 0]
def k0_off2 (d0 : Dev nD) (c0_i32_26 : BitVec 32) : Fin 2 → Nat :=
  let c1_i32_18 : BitVec 32 := 1#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_10 : BitVec 32 := 2#32
  let c0_i32_11 : BitVec 32 := 0#32
  let v23 : BitVec 1 := Scalar.cmpi .eq c2_i32_10 c0_i32_11
  let c1_i32_12 : BitVec 32 := 1#32
  let v24 : BitVec 32 := Scalar.select v23 c1_i32_12 c2_i32_10
  let v25 : BitVec 32 := Scalar.remsi v8 v24
  let c0_i32_14 : BitVec 32 := 0#32
  let v27 : BitVec 1 := Scalar.cmpi .slt v25 c0_i32_14
  let c0_i32_15 : BitVec 32 := 0#32
  let v28 : BitVec 1 := Scalar.cmpi .slt v24 c0_i32_15
  let v29 : BitVec 1 := Scalar.xori v27 v28
  let c0_i32_13 : BitVec 32 := 0#32
  let v26 : BitVec 1 := Scalar.cmpi .ne v25 c0_i32_13
  let v30 : BitVec 1 := Scalar.andi v29 v26
  let v31 : BitVec 32 := Scalar.addi v25 v24
  let v32 : BitVec 32 := Scalar.select v30 v31 v25
  let v37 : BitVec 32 := Scalar.subi c1_i32_18 v32
  let c16384_i32_19 : BitVec 32 := 16384#32
  let v38 : BitVec 32 := Scalar.muli v37 c16384_i32_19
  let v45 : BitVec 32 := Scalar.addi v38 c0_i32_26
  let c0_i32_31 : BitVec 32 := 0#32
  ![v45.toNat, 0]
def k0_dev1 (d0 : Dev nD) : Nat :=
  let c0_i32_45 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_44 : BitVec 32 := 8#32
  let v64 : BitVec 32 := Scalar.muli v2 c8_i32_44
  let v65 : BitVec 32 := Scalar.addi c0_i32_45 v64
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_46 : BitVec 32 := 4#32
  let v66 : BitVec 32 := Scalar.muli v9 c4_i32_46
  let v67 : BitVec 32 := Scalar.addi v65 v66
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_47 : BitVec 32 := 1#32
  let v68 : BitVec 32 := Scalar.muli v8 c1_i32_47
  let v69 : BitVec 32 := Scalar.addi v67 v68
  v69.toNat
def k0_dev2 (d0 : Dev nD) : Nat :=
  let c0_i32_50 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_49 : BitVec 32 := 8#32
  let v70 : BitVec 32 := Scalar.muli v2 c8_i32_49
  let v71 : BitVec 32 := Scalar.addi c0_i32_50 v70
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_51 : BitVec 32 := 4#32
  let v72 : BitVec 32 := Scalar.muli v5 c4_i32_51
  let v73 : BitVec 32 := Scalar.addi v71 v72
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_3 : BitVec 32 := 1#32
  let v10 : BitVec 32 := Scalar.addi v8 c1_i32_3
  let c2_i32_9 : BitVec 32 := 2#32
  let c2_i32_4 : BitVec 32 := 2#32
  let c0_i32 : BitVec 32 := 0#32
  let v11 : BitVec 1 := Scalar.cmpi .eq c2_i32_4 c0_i32
  let c1_i32_5 : BitVec 32 := 1#32
  let v12 : BitVec 32 := Scalar.select v11 c1_i32_5 c2_i32_4
  let v13 : BitVec 32 := Scalar.remsi v8 v12
  let c0_i32_7 : BitVec 32 := 0#32
  let v15 : BitVec 1 := Scalar.cmpi .slt v13 c0_i32_7
  let c0_i32_8 : BitVec 32 := 0#32
  let v16 : BitVec 1 := Scalar.cmpi .slt v12 c0_i32_8
  let v17 : BitVec 1 := Scalar.xori v15 v16
  let c0_i32_6 : BitVec 32 := 0#32
  let v14 : BitVec 1 := Scalar.cmpi .ne v13 c0_i32_6
  let v18 : BitVec 1 := Scalar.andi v17 v14
  let v19 : BitVec 32 := Scalar.addi v13 v12
  let v20 : BitVec 32 := Scalar.select v18 v19 v13
  let v21 : BitVec 32 := Scalar.muli c2_i32_9 v20
  let v22 : BitVec 32 := Scalar.subi v10 v21
  let c1_i32_52 : BitVec 32 := 1#32
  let v74 : BitVec 32 := Scalar.muli v22 c1_i32_52
  let v75 : BitVec 32 := Scalar.addi v73 v74
  v75.toNat
def k0_off3 (d0 : Dev nD) (c0_i32_70 : BitVec 32) : Fin 2 → Nat :=
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c32768_i32 : BitVec 32 := 32768#32
  let v33 : BitVec 32 := Scalar.muli v5 c32768_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_10 : BitVec 32 := 2#32
  let c0_i32_11 : BitVec 32 := 0#32
  let v23 : BitVec 1 := Scalar.cmpi .eq c2_i32_10 c0_i32_11
  let c1_i32_12 : BitVec 32 := 1#32
  let v24 : BitVec 32 := Scalar.select v23 c1_i32_12 c2_i32_10
  let v25 : BitVec 32 := Scalar.remsi v8 v24
  let c0_i32_14 : BitVec 32 := 0#32
  let v27 : BitVec 1 := Scalar.cmpi .slt v25 c0_i32_14
  let c0_i32_15 : BitVec 32 := 0#32
  let v28 : BitVec 1 := Scalar.cmpi .slt v24 c0_i32_15
  let v29 : BitVec 1 := Scalar.xori v27 v28
  let c0_i32_13 : BitVec 32 := 0#32
  let v26 : BitVec 1 := Scalar.cmpi .ne v25 c0_i32_13
  let v30 : BitVec 1 := Scalar.andi v29 v26
  let v31 : BitVec 32 := Scalar.addi v25 v24
  let v32 : BitVec 32 := Scalar.select v30 v31 v25
  let c16384_i32 : BitVec 32 := 16384#32
  let v36 : BitVec 32 := Scalar.muli v32 c16384_i32
  let v94 : BitVec 32 := Scalar.addi v33 v36
  let v95 : BitVec 32 := Scalar.addi v94 c0_i32_70
  let c0_i32_73 : BitVec 32 := 0#32
  ![v95.toNat, 0]
def k0_dev3 (d0 : Dev nD) : Nat :=
  let c0_i32_81 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_80 : BitVec 32 := 8#32
  let v103 : BitVec 32 := Scalar.muli v2 c8_i32_80
  let v104 : BitVec 32 := Scalar.addi c0_i32_81 v103
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_82 : BitVec 32 := 4#32
  let v105 : BitVec 32 := Scalar.muli v9 c4_i32_82
  let v106 : BitVec 32 := Scalar.addi v104 v105
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_83 : BitVec 32 := 1#32
  let v107 : BitVec 32 := Scalar.muli v8 c1_i32_83
  let v108 : BitVec 32 := Scalar.addi v106 v107
  v108.toNat
def k0_off4 (d0 : Dev nD) (c0_i32_105 : BitVec 32) : Fin 2 → Nat :=
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c32768_i32 : BitVec 32 := 32768#32
  let v33 : BitVec 32 := Scalar.muli v5 c32768_i32
  let c1_i32_18 : BitVec 32 := 1#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_10 : BitVec 32 := 2#32
  let c0_i32_11 : BitVec 32 := 0#32
  let v23 : BitVec 1 := Scalar.cmpi .eq c2_i32_10 c0_i32_11
  let c1_i32_12 : BitVec 32 := 1#32
  let v24 : BitVec 32 := Scalar.select v23 c1_i32_12 c2_i32_10
  let v25 : BitVec 32 := Scalar.remsi v8 v24
  let c0_i32_14 : BitVec 32 := 0#32
  let v27 : BitVec 1 := Scalar.cmpi .slt v25 c0_i32_14
  let c0_i32_15 : BitVec 32 := 0#32
  let v28 : BitVec 1 := Scalar.cmpi .slt v24 c0_i32_15
  let v29 : BitVec 1 := Scalar.xori v27 v28
  let c0_i32_13 : BitVec 32 := 0#32
  let v26 : BitVec 1 := Scalar.cmpi .ne v25 c0_i32_13
  let v30 : BitVec 1 := Scalar.andi v29 v26
  let v31 : BitVec 32 := Scalar.addi v25 v24
  let v32 : BitVec 32 := Scalar.select v30 v31 v25
  let v37 : BitVec 32 := Scalar.subi c1_i32_18 v32
  let c16384_i32_19 : BitVec 32 := 16384#32
  let v38 : BitVec 32 := Scalar.muli v37 c16384_i32_19
  let v134 : BitVec 32 := Scalar.addi v33 v38
  let v135 : BitVec 32 := Scalar.addi v134 c0_i32_105
  let c0_i32_108 : BitVec 32 := 0#32
  ![v135.toNat, 0]
def k0_off5 (d0 : Dev nD) (c0_i32_111 : BitVec 32) : Fin 2 → Nat :=
  let c1_i32_16 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v34 : BitVec 32 := Scalar.subi c1_i32_16 v5
  let c32768_i32_17 : BitVec 32 := 32768#32
  let v35 : BitVec 32 := Scalar.muli v34 c32768_i32_17
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_10 : BitVec 32 := 2#32
  let c0_i32_11 : BitVec 32 := 0#32
  let v23 : BitVec 1 := Scalar.cmpi .eq c2_i32_10 c0_i32_11
  let c1_i32_12 : BitVec 32 := 1#32
  let v24 : BitVec 32 := Scalar.select v23 c1_i32_12 c2_i32_10
  let v25 : BitVec 32 := Scalar.remsi v8 v24
  let c0_i32_14 : BitVec 32 := 0#32
  let v27 : BitVec 1 := Scalar.cmpi .slt v25 c0_i32_14
  let c0_i32_15 : BitVec 32 := 0#32
  let v28 : BitVec 1 := Scalar.cmpi .slt v24 c0_i32_15
  let v29 : BitVec 1 := Scalar.xori v27 v28
  let c0_i32_13 : BitVec 32 := 0#32
  let v26 : BitVec 1 := Scalar.cmpi .ne v25 c0_i32_13
  let v30 : BitVec 1 := Scalar.andi v29 v26
  let v31 : BitVec 32 := Scalar.addi v25 v24
  let v32 : BitVec 32 := Scalar.select v30 v31 v25
  let c16384_i32 : BitVec 32 := 16384#32
  let v36 : BitVec 32 := Scalar.muli v32 c16384_i32
  let v141 : BitVec 32 := Scalar.addi v35 v36
  let v142 : BitVec 32 := Scalar.addi v141 c0_i32_111
  let c0_i32_118 : BitVec 32 := 0#32
  ![v142.toNat, 0]
def k0_dev4 (d0 : Dev nD) : Nat :=
  let c0_i32_124 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_123 : BitVec 32 := 8#32
  let v155 : BitVec 32 := Scalar.muli v2 c8_i32_123
  let v156 : BitVec 32 := Scalar.addi c0_i32_124 v155
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_125 : BitVec 32 := 4#32
  let v157 : BitVec 32 := Scalar.muli v5 c4_i32_125
  let v158 : BitVec 32 := Scalar.addi v156 v157
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_3 : BitVec 32 := 1#32
  let v10 : BitVec 32 := Scalar.addi v8 c1_i32_3
  let c2_i32_9 : BitVec 32 := 2#32
  let c2_i32_4 : BitVec 32 := 2#32
  let c0_i32 : BitVec 32 := 0#32
  let v11 : BitVec 1 := Scalar.cmpi .eq c2_i32_4 c0_i32
  let c1_i32_5 : BitVec 32 := 1#32
  let v12 : BitVec 32 := Scalar.select v11 c1_i32_5 c2_i32_4
  let v13 : BitVec 32 := Scalar.remsi v8 v12
  let c0_i32_7 : BitVec 32 := 0#32
  let v15 : BitVec 1 := Scalar.cmpi .slt v13 c0_i32_7
  let c0_i32_8 : BitVec 32 := 0#32
  let v16 : BitVec 1 := Scalar.cmpi .slt v12 c0_i32_8
  let v17 : BitVec 1 := Scalar.xori v15 v16
  let c0_i32_6 : BitVec 32 := 0#32
  let v14 : BitVec 1 := Scalar.cmpi .ne v13 c0_i32_6
  let v18 : BitVec 1 := Scalar.andi v17 v14
  let v19 : BitVec 32 := Scalar.addi v13 v12
  let v20 : BitVec 32 := Scalar.select v18 v19 v13
  let v21 : BitVec 32 := Scalar.muli c2_i32_9 v20
  let v22 : BitVec 32 := Scalar.subi v10 v21
  let c1_i32_126 : BitVec 32 := 1#32
  let v159 : BitVec 32 := Scalar.muli v22 c1_i32_126
  let v160 : BitVec 32 := Scalar.addi v158 v159
  v160.toNat
def k0_dev5 (d0 : Dev nD) : Nat :=
  let c0_i32_156 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_155 : BitVec 32 := 8#32
  let v194 : BitVec 32 := Scalar.muli v2 c8_i32_155
  let v195 : BitVec 32 := Scalar.addi c0_i32_156 v194
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_157 : BitVec 32 := 4#32
  let v196 : BitVec 32 := Scalar.muli v9 c4_i32_157
  let v197 : BitVec 32 := Scalar.addi v195 v196
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_158 : BitVec 32 := 1#32
  let v198 : BitVec 32 := Scalar.muli v8 c1_i32_158
  let v199 : BitVec 32 := Scalar.addi v197 v198
  v199.toNat
def k0_dev6 (d0 : Dev nD) : Nat :=
  let c0_i32_199 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_198 : BitVec 32 := 8#32
  let v246 : BitVec 32 := Scalar.muli v2 c8_i32_198
  let v247 : BitVec 32 := Scalar.addi c0_i32_199 v246
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_200 : BitVec 32 := 4#32
  let v248 : BitVec 32 := Scalar.muli v5 c4_i32_200
  let v249 : BitVec 32 := Scalar.addi v247 v248
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_3 : BitVec 32 := 1#32
  let v10 : BitVec 32 := Scalar.addi v8 c1_i32_3
  let c2_i32_9 : BitVec 32 := 2#32
  let c2_i32_4 : BitVec 32 := 2#32
  let c0_i32 : BitVec 32 := 0#32
  let v11 : BitVec 1 := Scalar.cmpi .eq c2_i32_4 c0_i32
  let c1_i32_5 : BitVec 32 := 1#32
  let v12 : BitVec 32 := Scalar.select v11 c1_i32_5 c2_i32_4
  let v13 : BitVec 32 := Scalar.remsi v8 v12
  let c0_i32_7 : BitVec 32 := 0#32
  let v15 : BitVec 1 := Scalar.cmpi .slt v13 c0_i32_7
  let c0_i32_8 : BitVec 32 := 0#32
  let v16 : BitVec 1 := Scalar.cmpi .slt v12 c0_i32_8
  let v17 : BitVec 1 := Scalar.xori v15 v16
  let c0_i32_6 : BitVec 32 := 0#32
  let v14 : BitVec 1 := Scalar.cmpi .ne v13 c0_i32_6
  let v18 : BitVec 1 := Scalar.andi v17 v14
  let v19 : BitVec 32 := Scalar.addi v13 v12
  let v20 : BitVec 32 := Scalar.select v18 v19 v13
  let v21 : BitVec 32 := Scalar.muli c2_i32_9 v20
  let v22 : BitVec 32 := Scalar.subi v10 v21
  let c1_i32_201 : BitVec 32 := 1#32
  let v250 : BitVec 32 := Scalar.muli v22 c1_i32_201
  let v251 : BitVec 32 := Scalar.addi v249 v250
  v251.toNat
def k0_dev7 (d0 : Dev nD) : Nat :=
  let c0_i32_231 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_230 : BitVec 32 := 8#32
  let v285 : BitVec 32 := Scalar.muli v2 c8_i32_230
  let v286 : BitVec 32 := Scalar.addi c0_i32_231 v285
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_232 : BitVec 32 := 4#32
  let v287 : BitVec 32 := Scalar.muli v9 c4_i32_232
  let v288 : BitVec 32 := Scalar.addi v286 v287
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_233 : BitVec 32 := 1#32
  let v289 : BitVec 32 := Scalar.muli v8 c1_i32_233
  let v290 : BitVec 32 := Scalar.addi v288 v289
  v290.toNat
def k0_dev8 (d0 : Dev nD) : Nat :=
  let c0_i32_280 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_279 : BitVec 32 := 8#32
  let v344 : BitVec 32 := Scalar.muli v2 c8_i32_279
  let v345 : BitVec 32 := Scalar.addi c0_i32_280 v344
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_281 : BitVec 32 := 4#32
  let v346 : BitVec 32 := Scalar.muli v5 c4_i32_281
  let v347 : BitVec 32 := Scalar.addi v345 v346
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_3 : BitVec 32 := 1#32
  let v10 : BitVec 32 := Scalar.addi v8 c1_i32_3
  let c2_i32_9 : BitVec 32 := 2#32
  let c2_i32_4 : BitVec 32 := 2#32
  let c0_i32 : BitVec 32 := 0#32
  let v11 : BitVec 1 := Scalar.cmpi .eq c2_i32_4 c0_i32
  let c1_i32_5 : BitVec 32 := 1#32
  let v12 : BitVec 32 := Scalar.select v11 c1_i32_5 c2_i32_4
  let v13 : BitVec 32 := Scalar.remsi v8 v12
  let c0_i32_7 : BitVec 32 := 0#32
  let v15 : BitVec 1 := Scalar.cmpi .slt v13 c0_i32_7
  let c0_i32_8 : BitVec 32 := 0#32
  let v16 : BitVec 1 := Scalar.cmpi .slt v12 c0_i32_8
  let v17 : BitVec 1 := Scalar.xori v15 v16
  let c0_i32_6 : BitVec 32 := 0#32
  let v14 : BitVec 1 := Scalar.cmpi .ne v13 c0_i32_6
  let v18 : BitVec 1 := Scalar.andi v17 v14
  let v19 : BitVec 32 := Scalar.addi v13 v12
  let v20 : BitVec 32 := Scalar.select v18 v19 v13
  let v21 : BitVec 32 := Scalar.muli c2_i32_9 v20
  let v22 : BitVec 32 := Scalar.subi v10 v21
  let c1_i32_282 : BitVec 32 := 1#32
  let v348 : BitVec 32 := Scalar.muli v22 c1_i32_282
  let v349 : BitVec 32 := Scalar.addi v347 v348
  v349.toNat
def k0_dev9 (d0 : Dev nD) : Nat :=
  let c0_i32_311 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_310 : BitVec 32 := 8#32
  let v383 : BitVec 32 := Scalar.muli v2 c8_i32_310
  let v384 : BitVec 32 := Scalar.addi c0_i32_311 v383
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_312 : BitVec 32 := 4#32
  let v385 : BitVec 32 := Scalar.muli v9 c4_i32_312
  let v386 : BitVec 32 := Scalar.addi v384 v385
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_313 : BitVec 32 := 1#32
  let v387 : BitVec 32 := Scalar.muli v8 c1_i32_313
  let v388 : BitVec 32 := Scalar.addi v386 v387
  v388.toNat
def k0_dev10 (d0 : Dev nD) : Nat :=
  let c0_i32_360 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_359 : BitVec 32 := 8#32
  let v442 : BitVec 32 := Scalar.muli v2 c8_i32_359
  let v443 : BitVec 32 := Scalar.addi c0_i32_360 v442
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_361 : BitVec 32 := 4#32
  let v444 : BitVec 32 := Scalar.muli v5 c4_i32_361
  let v445 : BitVec 32 := Scalar.addi v443 v444
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_3 : BitVec 32 := 1#32
  let v10 : BitVec 32 := Scalar.addi v8 c1_i32_3
  let c2_i32_9 : BitVec 32 := 2#32
  let c2_i32_4 : BitVec 32 := 2#32
  let c0_i32 : BitVec 32 := 0#32
  let v11 : BitVec 1 := Scalar.cmpi .eq c2_i32_4 c0_i32
  let c1_i32_5 : BitVec 32 := 1#32
  let v12 : BitVec 32 := Scalar.select v11 c1_i32_5 c2_i32_4
  let v13 : BitVec 32 := Scalar.remsi v8 v12
  let c0_i32_7 : BitVec 32 := 0#32
  let v15 : BitVec 1 := Scalar.cmpi .slt v13 c0_i32_7
  let c0_i32_8 : BitVec 32 := 0#32
  let v16 : BitVec 1 := Scalar.cmpi .slt v12 c0_i32_8
  let v17 : BitVec 1 := Scalar.xori v15 v16
  let c0_i32_6 : BitVec 32 := 0#32
  let v14 : BitVec 1 := Scalar.cmpi .ne v13 c0_i32_6
  let v18 : BitVec 1 := Scalar.andi v17 v14
  let v19 : BitVec 32 := Scalar.addi v13 v12
  let v20 : BitVec 32 := Scalar.select v18 v19 v13
  let v21 : BitVec 32 := Scalar.muli c2_i32_9 v20
  let v22 : BitVec 32 := Scalar.subi v10 v21
  let c1_i32_362 : BitVec 32 := 1#32
  let v446 : BitVec 32 := Scalar.muli v22 c1_i32_362
  let v447 : BitVec 32 := Scalar.addi v445 v446
  v447.toNat
def k0_dev11 (d0 : Dev nD) : Nat :=
  let c0_i32_406 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_405 : BitVec 32 := 8#32
  let v493 : BitVec 32 := Scalar.muli v2 c8_i32_405
  let v494 : BitVec 32 := Scalar.addi c0_i32_406 v493
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_407 : BitVec 32 := 4#32
  let v495 : BitVec 32 := Scalar.muli v9 c4_i32_407
  let v496 : BitVec 32 := Scalar.addi v494 v495
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_408 : BitVec 32 := 1#32
  let v497 : BitVec 32 := Scalar.muli v8 c1_i32_408
  let v498 : BitVec 32 := Scalar.addi v496 v497
  v498.toNat
def k0_dev12 (d0 : Dev nD) : Nat :=
  let c0_i32_455 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_454 : BitVec 32 := 8#32
  let v552 : BitVec 32 := Scalar.muli v2 c8_i32_454
  let v553 : BitVec 32 := Scalar.addi c0_i32_455 v552
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_456 : BitVec 32 := 4#32
  let v554 : BitVec 32 := Scalar.muli v5 c4_i32_456
  let v555 : BitVec 32 := Scalar.addi v553 v554
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_3 : BitVec 32 := 1#32
  let v10 : BitVec 32 := Scalar.addi v8 c1_i32_3
  let c2_i32_9 : BitVec 32 := 2#32
  let c2_i32_4 : BitVec 32 := 2#32
  let c0_i32 : BitVec 32 := 0#32
  let v11 : BitVec 1 := Scalar.cmpi .eq c2_i32_4 c0_i32
  let c1_i32_5 : BitVec 32 := 1#32
  let v12 : BitVec 32 := Scalar.select v11 c1_i32_5 c2_i32_4
  let v13 : BitVec 32 := Scalar.remsi v8 v12
  let c0_i32_7 : BitVec 32 := 0#32
  let v15 : BitVec 1 := Scalar.cmpi .slt v13 c0_i32_7
  let c0_i32_8 : BitVec 32 := 0#32
  let v16 : BitVec 1 := Scalar.cmpi .slt v12 c0_i32_8
  let v17 : BitVec 1 := Scalar.xori v15 v16
  let c0_i32_6 : BitVec 32 := 0#32
  let v14 : BitVec 1 := Scalar.cmpi .ne v13 c0_i32_6
  let v18 : BitVec 1 := Scalar.andi v17 v14
  let v19 : BitVec 32 := Scalar.addi v13 v12
  let v20 : BitVec 32 := Scalar.select v18 v19 v13
  let v21 : BitVec 32 := Scalar.muli c2_i32_9 v20
  let v22 : BitVec 32 := Scalar.subi v10 v21
  let c1_i32_457 : BitVec 32 := 1#32
  let v556 : BitVec 32 := Scalar.muli v22 c1_i32_457
  let v557 : BitVec 32 := Scalar.addi v555 v556
  v557.toNat
def k0_dev13 (d0 : Dev nD) : Nat :=
  let c0_i32_500 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_499 : BitVec 32 := 8#32
  let v603 : BitVec 32 := Scalar.muli v2 c8_i32_499
  let v604 : BitVec 32 := Scalar.addi c0_i32_500 v603
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_501 : BitVec 32 := 4#32
  let v605 : BitVec 32 := Scalar.muli v9 c4_i32_501
  let v606 : BitVec 32 := Scalar.addi v604 v605
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_502 : BitVec 32 := 1#32
  let v607 : BitVec 32 := Scalar.muli v8 c1_i32_502
  let v608 : BitVec 32 := Scalar.addi v606 v607
  v608.toNat
def k0_dev14 (d0 : Dev nD) : Nat :=
  let c0_i32_549 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_548 : BitVec 32 := 8#32
  let v662 : BitVec 32 := Scalar.muli v2 c8_i32_548
  let v663 : BitVec 32 := Scalar.addi c0_i32_549 v662
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_550 : BitVec 32 := 4#32
  let v664 : BitVec 32 := Scalar.muli v5 c4_i32_550
  let v665 : BitVec 32 := Scalar.addi v663 v664
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_3 : BitVec 32 := 1#32
  let v10 : BitVec 32 := Scalar.addi v8 c1_i32_3
  let c2_i32_9 : BitVec 32 := 2#32
  let c2_i32_4 : BitVec 32 := 2#32
  let c0_i32 : BitVec 32 := 0#32
  let v11 : BitVec 1 := Scalar.cmpi .eq c2_i32_4 c0_i32
  let c1_i32_5 : BitVec 32 := 1#32
  let v12 : BitVec 32 := Scalar.select v11 c1_i32_5 c2_i32_4
  let v13 : BitVec 32 := Scalar.remsi v8 v12
  let c0_i32_7 : BitVec 32 := 0#32
  let v15 : BitVec 1 := Scalar.cmpi .slt v13 c0_i32_7
  let c0_i32_8 : BitVec 32 := 0#32
  let v16 : BitVec 1 := Scalar.cmpi .slt v12 c0_i32_8
  let v17 : BitVec 1 := Scalar.xori v15 v16
  let c0_i32_6 : BitVec 32 := 0#32
  let v14 : BitVec 1 := Scalar.cmpi .ne v13 c0_i32_6
  let v18 : BitVec 1 := Scalar.andi v17 v14
  let v19 : BitVec 32 := Scalar.addi v13 v12
  let v20 : BitVec 32 := Scalar.select v18 v19 v13
  let v21 : BitVec 32 := Scalar.muli c2_i32_9 v20
  let v22 : BitVec 32 := Scalar.subi v10 v21
  let c1_i32_551 : BitVec 32 := 1#32
  let v666 : BitVec 32 := Scalar.muli v22 c1_i32_551
  let v667 : BitVec 32 := Scalar.addi v665 v666
  v667.toNat
def k0_dev15 (d0 : Dev nD) : Nat :=
  let c0_i32_594 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_593 : BitVec 32 := 8#32
  let v713 : BitVec 32 := Scalar.muli v2 c8_i32_593
  let v714 : BitVec 32 := Scalar.addi c0_i32_594 v713
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_595 : BitVec 32 := 4#32
  let v715 : BitVec 32 := Scalar.muli v9 c4_i32_595
  let v716 : BitVec 32 := Scalar.addi v714 v715
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_596 : BitVec 32 := 1#32
  let v717 : BitVec 32 := Scalar.muli v8 c1_i32_596
  let v718 : BitVec 32 := Scalar.addi v716 v717
  v718.toNat
def k0_dev16 (d0 : Dev nD) : Nat :=
  let c0_i32_643 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_642 : BitVec 32 := 8#32
  let v772 : BitVec 32 := Scalar.muli v2 c8_i32_642
  let v773 : BitVec 32 := Scalar.addi c0_i32_643 v772
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_644 : BitVec 32 := 4#32
  let v774 : BitVec 32 := Scalar.muli v5 c4_i32_644
  let v775 : BitVec 32 := Scalar.addi v773 v774
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_3 : BitVec 32 := 1#32
  let v10 : BitVec 32 := Scalar.addi v8 c1_i32_3
  let c2_i32_9 : BitVec 32 := 2#32
  let c2_i32_4 : BitVec 32 := 2#32
  let c0_i32 : BitVec 32 := 0#32
  let v11 : BitVec 1 := Scalar.cmpi .eq c2_i32_4 c0_i32
  let c1_i32_5 : BitVec 32 := 1#32
  let v12 : BitVec 32 := Scalar.select v11 c1_i32_5 c2_i32_4
  let v13 : BitVec 32 := Scalar.remsi v8 v12
  let c0_i32_7 : BitVec 32 := 0#32
  let v15 : BitVec 1 := Scalar.cmpi .slt v13 c0_i32_7
  let c0_i32_8 : BitVec 32 := 0#32
  let v16 : BitVec 1 := Scalar.cmpi .slt v12 c0_i32_8
  let v17 : BitVec 1 := Scalar.xori v15 v16
  let c0_i32_6 : BitVec 32 := 0#32
  let v14 : BitVec 1 := Scalar.cmpi .ne v13 c0_i32_6
  let v18 : BitVec 1 := Scalar.andi v17 v14
  let v19 : BitVec 32 := Scalar.addi v13 v12
  let v20 : BitVec 32 := Scalar.select v18 v19 v13
  let v21 : BitVec 32 := Scalar.muli c2_i32_9 v20
  let v22 : BitVec 32 := Scalar.subi v10 v21
  let c1_i32_645 : BitVec 32 := 1#32
  let v776 : BitVec 32 := Scalar.muli v22 c1_i32_645
  let v777 : BitVec 32 := Scalar.addi v775 v776
  v777.toNat
def k0_dev17 (d0 : Dev nD) : Nat :=
  let c0_i32_688 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_687 : BitVec 32 := 8#32
  let v823 : BitVec 32 := Scalar.muli v2 c8_i32_687
  let v824 : BitVec 32 := Scalar.addi c0_i32_688 v823
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_689 : BitVec 32 := 4#32
  let v825 : BitVec 32 := Scalar.muli v9 c4_i32_689
  let v826 : BitVec 32 := Scalar.addi v824 v825
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_690 : BitVec 32 := 1#32
  let v827 : BitVec 32 := Scalar.muli v8 c1_i32_690
  let v828 : BitVec 32 := Scalar.addi v826 v827
  v828.toNat
def k0_dev18 (d0 : Dev nD) : Nat :=
  let c0_i32_737 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_736 : BitVec 32 := 8#32
  let v882 : BitVec 32 := Scalar.muli v2 c8_i32_736
  let v883 : BitVec 32 := Scalar.addi c0_i32_737 v882
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_738 : BitVec 32 := 4#32
  let v884 : BitVec 32 := Scalar.muli v5 c4_i32_738
  let v885 : BitVec 32 := Scalar.addi v883 v884
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_3 : BitVec 32 := 1#32
  let v10 : BitVec 32 := Scalar.addi v8 c1_i32_3
  let c2_i32_9 : BitVec 32 := 2#32
  let c2_i32_4 : BitVec 32 := 2#32
  let c0_i32 : BitVec 32 := 0#32
  let v11 : BitVec 1 := Scalar.cmpi .eq c2_i32_4 c0_i32
  let c1_i32_5 : BitVec 32 := 1#32
  let v12 : BitVec 32 := Scalar.select v11 c1_i32_5 c2_i32_4
  let v13 : BitVec 32 := Scalar.remsi v8 v12
  let c0_i32_7 : BitVec 32 := 0#32
  let v15 : BitVec 1 := Scalar.cmpi .slt v13 c0_i32_7
  let c0_i32_8 : BitVec 32 := 0#32
  let v16 : BitVec 1 := Scalar.cmpi .slt v12 c0_i32_8
  let v17 : BitVec 1 := Scalar.xori v15 v16
  let c0_i32_6 : BitVec 32 := 0#32
  let v14 : BitVec 1 := Scalar.cmpi .ne v13 c0_i32_6
  let v18 : BitVec 1 := Scalar.andi v17 v14
  let v19 : BitVec 32 := Scalar.addi v13 v12
  let v20 : BitVec 32 := Scalar.select v18 v19 v13
  let v21 : BitVec 32 := Scalar.muli c2_i32_9 v20
  let v22 : BitVec 32 := Scalar.subi v10 v21
  let c1_i32_739 : BitVec 32 := 1#32
  let v886 : BitVec 32 := Scalar.muli v22 c1_i32_739
  let v887 : BitVec 32 := Scalar.addi v885 v886
  v887.toNat
def k0_dev19 (d0 : Dev nD) : Nat :=
  let c0_i32_783 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_782 : BitVec 32 := 8#32
  let v933 : BitVec 32 := Scalar.muli v2 c8_i32_782
  let v934 : BitVec 32 := Scalar.addi c0_i32_783 v933
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_784 : BitVec 32 := 4#32
  let v935 : BitVec 32 := Scalar.muli v9 c4_i32_784
  let v936 : BitVec 32 := Scalar.addi v934 v935
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_785 : BitVec 32 := 1#32
  let v937 : BitVec 32 := Scalar.muli v8 c1_i32_785
  let v938 : BitVec 32 := Scalar.addi v936 v937
  v938.toNat
def k0_dev20 (d0 : Dev nD) : Nat :=
  let c0_i32_832 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_831 : BitVec 32 := 8#32
  let v992 : BitVec 32 := Scalar.muli v2 c8_i32_831
  let v993 : BitVec 32 := Scalar.addi c0_i32_832 v992
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_833 : BitVec 32 := 4#32
  let v994 : BitVec 32 := Scalar.muli v5 c4_i32_833
  let v995 : BitVec 32 := Scalar.addi v993 v994
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_3 : BitVec 32 := 1#32
  let v10 : BitVec 32 := Scalar.addi v8 c1_i32_3
  let c2_i32_9 : BitVec 32 := 2#32
  let c2_i32_4 : BitVec 32 := 2#32
  let c0_i32 : BitVec 32 := 0#32
  let v11 : BitVec 1 := Scalar.cmpi .eq c2_i32_4 c0_i32
  let c1_i32_5 : BitVec 32 := 1#32
  let v12 : BitVec 32 := Scalar.select v11 c1_i32_5 c2_i32_4
  let v13 : BitVec 32 := Scalar.remsi v8 v12
  let c0_i32_7 : BitVec 32 := 0#32
  let v15 : BitVec 1 := Scalar.cmpi .slt v13 c0_i32_7
  let c0_i32_8 : BitVec 32 := 0#32
  let v16 : BitVec 1 := Scalar.cmpi .slt v12 c0_i32_8
  let v17 : BitVec 1 := Scalar.xori v15 v16
  let c0_i32_6 : BitVec 32 := 0#32
  let v14 : BitVec 1 := Scalar.cmpi .ne v13 c0_i32_6
  let v18 : BitVec 1 := Scalar.andi v17 v14
  let v19 : BitVec 32 := Scalar.addi v13 v12
  let v20 : BitVec 32 := Scalar.select v18 v19 v13
  let v21 : BitVec 32 := Scalar.muli c2_i32_9 v20
  let v22 : BitVec 32 := Scalar.subi v10 v21
  let c1_i32_834 : BitVec 32 := 1#32
  let v996 : BitVec 32 := Scalar.muli v22 c1_i32_834
  let v997 : BitVec 32 := Scalar.addi v995 v996
  v997.toNat
def k0_dev21 (d0 : Dev nD) : Nat :=
  let c0_i32_877 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_876 : BitVec 32 := 8#32
  let v1043 : BitVec 32 := Scalar.muli v2 c8_i32_876
  let v1044 : BitVec 32 := Scalar.addi c0_i32_877 v1043
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_878 : BitVec 32 := 4#32
  let v1045 : BitVec 32 := Scalar.muli v9 c4_i32_878
  let v1046 : BitVec 32 := Scalar.addi v1044 v1045
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_879 : BitVec 32 := 1#32
  let v1047 : BitVec 32 := Scalar.muli v8 c1_i32_879
  let v1048 : BitVec 32 := Scalar.addi v1046 v1047
  v1048.toNat
def k0_dev22 (d0 : Dev nD) : Nat :=
  let c0_i32_926 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_925 : BitVec 32 := 8#32
  let v1102 : BitVec 32 := Scalar.muli v2 c8_i32_925
  let v1103 : BitVec 32 := Scalar.addi c0_i32_926 v1102
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_927 : BitVec 32 := 4#32
  let v1104 : BitVec 32 := Scalar.muli v5 c4_i32_927
  let v1105 : BitVec 32 := Scalar.addi v1103 v1104
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_3 : BitVec 32 := 1#32
  let v10 : BitVec 32 := Scalar.addi v8 c1_i32_3
  let c2_i32_9 : BitVec 32 := 2#32
  let c2_i32_4 : BitVec 32 := 2#32
  let c0_i32 : BitVec 32 := 0#32
  let v11 : BitVec 1 := Scalar.cmpi .eq c2_i32_4 c0_i32
  let c1_i32_5 : BitVec 32 := 1#32
  let v12 : BitVec 32 := Scalar.select v11 c1_i32_5 c2_i32_4
  let v13 : BitVec 32 := Scalar.remsi v8 v12
  let c0_i32_7 : BitVec 32 := 0#32
  let v15 : BitVec 1 := Scalar.cmpi .slt v13 c0_i32_7
  let c0_i32_8 : BitVec 32 := 0#32
  let v16 : BitVec 1 := Scalar.cmpi .slt v12 c0_i32_8
  let v17 : BitVec 1 := Scalar.xori v15 v16
  let c0_i32_6 : BitVec 32 := 0#32
  let v14 : BitVec 1 := Scalar.cmpi .ne v13 c0_i32_6
  let v18 : BitVec 1 := Scalar.andi v17 v14
  let v19 : BitVec 32 := Scalar.addi v13 v12
  let v20 : BitVec 32 := Scalar.select v18 v19 v13
  let v21 : BitVec 32 := Scalar.muli c2_i32_9 v20
  let v22 : BitVec 32 := Scalar.subi v10 v21
  let c1_i32_928 : BitVec 32 := 1#32
  let v1106 : BitVec 32 := Scalar.muli v22 c1_i32_928
  let v1107 : BitVec 32 := Scalar.addi v1105 v1106
  v1107.toNat
def k0_dev23 (d0 : Dev nD) : Nat :=
  let c0_i32_971 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_970 : BitVec 32 := 8#32
  let v1153 : BitVec 32 := Scalar.muli v2 c8_i32_970
  let v1154 : BitVec 32 := Scalar.addi c0_i32_971 v1153
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_972 : BitVec 32 := 4#32
  let v1155 : BitVec 32 := Scalar.muli v9 c4_i32_972
  let v1156 : BitVec 32 := Scalar.addi v1154 v1155
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_973 : BitVec 32 := 1#32
  let v1157 : BitVec 32 := Scalar.muli v8 c1_i32_973
  let v1158 : BitVec 32 := Scalar.addi v1156 v1157
  v1158.toNat
def k0_dev24 (d0 : Dev nD) : Nat :=
  let c0_i32_1020 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1019 : BitVec 32 := 8#32
  let v1212 : BitVec 32 := Scalar.muli v2 c8_i32_1019
  let v1213 : BitVec 32 := Scalar.addi c0_i32_1020 v1212
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1021 : BitVec 32 := 4#32
  let v1214 : BitVec 32 := Scalar.muli v5 c4_i32_1021
  let v1215 : BitVec 32 := Scalar.addi v1213 v1214
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_3 : BitVec 32 := 1#32
  let v10 : BitVec 32 := Scalar.addi v8 c1_i32_3
  let c2_i32_9 : BitVec 32 := 2#32
  let c2_i32_4 : BitVec 32 := 2#32
  let c0_i32 : BitVec 32 := 0#32
  let v11 : BitVec 1 := Scalar.cmpi .eq c2_i32_4 c0_i32
  let c1_i32_5 : BitVec 32 := 1#32
  let v12 : BitVec 32 := Scalar.select v11 c1_i32_5 c2_i32_4
  let v13 : BitVec 32 := Scalar.remsi v8 v12
  let c0_i32_7 : BitVec 32 := 0#32
  let v15 : BitVec 1 := Scalar.cmpi .slt v13 c0_i32_7
  let c0_i32_8 : BitVec 32 := 0#32
  let v16 : BitVec 1 := Scalar.cmpi .slt v12 c0_i32_8
  let v17 : BitVec 1 := Scalar.xori v15 v16
  let c0_i32_6 : BitVec 32 := 0#32
  let v14 : BitVec 1 := Scalar.cmpi .ne v13 c0_i32_6
  let v18 : BitVec 1 := Scalar.andi v17 v14
  let v19 : BitVec 32 := Scalar.addi v13 v12
  let v20 : BitVec 32 := Scalar.select v18 v19 v13
  let v21 : BitVec 32 := Scalar.muli c2_i32_9 v20
  let v22 : BitVec 32 := Scalar.subi v10 v21
  let c1_i32_1022 : BitVec 32 := 1#32
  let v1216 : BitVec 32 := Scalar.muli v22 c1_i32_1022
  let v1217 : BitVec 32 := Scalar.addi v1215 v1216
  v1217.toNat
def k0_dev25 (d0 : Dev nD) : Nat :=
  let c0_i32_1065 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1064 : BitVec 32 := 8#32
  let v1263 : BitVec 32 := Scalar.muli v2 c8_i32_1064
  let v1264 : BitVec 32 := Scalar.addi c0_i32_1065 v1263
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_1066 : BitVec 32 := 4#32
  let v1265 : BitVec 32 := Scalar.muli v9 c4_i32_1066
  let v1266 : BitVec 32 := Scalar.addi v1264 v1265
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1067 : BitVec 32 := 1#32
  let v1267 : BitVec 32 := Scalar.muli v8 c1_i32_1067
  let v1268 : BitVec 32 := Scalar.addi v1266 v1267
  v1268.toNat
def k0_dev26 (d0 : Dev nD) : Nat :=
  let c0_i32_1114 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1113 : BitVec 32 := 8#32
  let v1322 : BitVec 32 := Scalar.muli v2 c8_i32_1113
  let v1323 : BitVec 32 := Scalar.addi c0_i32_1114 v1322
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1115 : BitVec 32 := 4#32
  let v1324 : BitVec 32 := Scalar.muli v5 c4_i32_1115
  let v1325 : BitVec 32 := Scalar.addi v1323 v1324
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_3 : BitVec 32 := 1#32
  let v10 : BitVec 32 := Scalar.addi v8 c1_i32_3
  let c2_i32_9 : BitVec 32 := 2#32
  let c2_i32_4 : BitVec 32 := 2#32
  let c0_i32 : BitVec 32 := 0#32
  let v11 : BitVec 1 := Scalar.cmpi .eq c2_i32_4 c0_i32
  let c1_i32_5 : BitVec 32 := 1#32
  let v12 : BitVec 32 := Scalar.select v11 c1_i32_5 c2_i32_4
  let v13 : BitVec 32 := Scalar.remsi v8 v12
  let c0_i32_7 : BitVec 32 := 0#32
  let v15 : BitVec 1 := Scalar.cmpi .slt v13 c0_i32_7
  let c0_i32_8 : BitVec 32 := 0#32
  let v16 : BitVec 1 := Scalar.cmpi .slt v12 c0_i32_8
  let v17 : BitVec 1 := Scalar.xori v15 v16
  let c0_i32_6 : BitVec 32 := 0#32
  let v14 : BitVec 1 := Scalar.cmpi .ne v13 c0_i32_6
  let v18 : BitVec 1 := Scalar.andi v17 v14
  let v19 : BitVec 32 := Scalar.addi v13 v12
  let v20 : BitVec 32 := Scalar.select v18 v19 v13
  let v21 : BitVec 32 := Scalar.muli c2_i32_9 v20
  let v22 : BitVec 32 := Scalar.subi v10 v21
  let c1_i32_1116 : BitVec 32 := 1#32
  let v1326 : BitVec 32 := Scalar.muli v22 c1_i32_1116
  let v1327 : BitVec 32 := Scalar.addi v1325 v1326
  v1327.toNat
def k0_dev27 (d0 : Dev nD) : Nat :=
  let c0_i32_1159 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1158 : BitVec 32 := 8#32
  let v1373 : BitVec 32 := Scalar.muli v2 c8_i32_1158
  let v1374 : BitVec 32 := Scalar.addi c0_i32_1159 v1373
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_1160 : BitVec 32 := 4#32
  let v1375 : BitVec 32 := Scalar.muli v9 c4_i32_1160
  let v1376 : BitVec 32 := Scalar.addi v1374 v1375
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1161 : BitVec 32 := 1#32
  let v1377 : BitVec 32 := Scalar.muli v8 c1_i32_1161
  let v1378 : BitVec 32 := Scalar.addi v1376 v1377
  v1378.toNat
def k0_dev28 (d0 : Dev nD) : Nat :=
  let c0_i32_1208 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1207 : BitVec 32 := 8#32
  let v1432 : BitVec 32 := Scalar.muli v2 c8_i32_1207
  let v1433 : BitVec 32 := Scalar.addi c0_i32_1208 v1432
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1209 : BitVec 32 := 4#32
  let v1434 : BitVec 32 := Scalar.muli v5 c4_i32_1209
  let v1435 : BitVec 32 := Scalar.addi v1433 v1434
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_3 : BitVec 32 := 1#32
  let v10 : BitVec 32 := Scalar.addi v8 c1_i32_3
  let c2_i32_9 : BitVec 32 := 2#32
  let c2_i32_4 : BitVec 32 := 2#32
  let c0_i32 : BitVec 32 := 0#32
  let v11 : BitVec 1 := Scalar.cmpi .eq c2_i32_4 c0_i32
  let c1_i32_5 : BitVec 32 := 1#32
  let v12 : BitVec 32 := Scalar.select v11 c1_i32_5 c2_i32_4
  let v13 : BitVec 32 := Scalar.remsi v8 v12
  let c0_i32_7 : BitVec 32 := 0#32
  let v15 : BitVec 1 := Scalar.cmpi .slt v13 c0_i32_7
  let c0_i32_8 : BitVec 32 := 0#32
  let v16 : BitVec 1 := Scalar.cmpi .slt v12 c0_i32_8
  let v17 : BitVec 1 := Scalar.xori v15 v16
  let c0_i32_6 : BitVec 32 := 0#32
  let v14 : BitVec 1 := Scalar.cmpi .ne v13 c0_i32_6
  let v18 : BitVec 1 := Scalar.andi v17 v14
  let v19 : BitVec 32 := Scalar.addi v13 v12
  let v20 : BitVec 32 := Scalar.select v18 v19 v13
  let v21 : BitVec 32 := Scalar.muli c2_i32_9 v20
  let v22 : BitVec 32 := Scalar.subi v10 v21
  let c1_i32_1210 : BitVec 32 := 1#32
  let v1436 : BitVec 32 := Scalar.muli v22 c1_i32_1210
  let v1437 : BitVec 32 := Scalar.addi v1435 v1436
  v1437.toNat
def k0_dev29 (d0 : Dev nD) : Nat :=
  let c0_i32_1253 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1252 : BitVec 32 := 8#32
  let v1483 : BitVec 32 := Scalar.muli v2 c8_i32_1252
  let v1484 : BitVec 32 := Scalar.addi c0_i32_1253 v1483
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_1254 : BitVec 32 := 4#32
  let v1485 : BitVec 32 := Scalar.muli v9 c4_i32_1254
  let v1486 : BitVec 32 := Scalar.addi v1484 v1485
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1255 : BitVec 32 := 1#32
  let v1487 : BitVec 32 := Scalar.muli v8 c1_i32_1255
  let v1488 : BitVec 32 := Scalar.addi v1486 v1487
  v1488.toNat
def k0_dev30 (d0 : Dev nD) : Nat :=
  let c0_i32_1302 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1301 : BitVec 32 := 8#32
  let v1542 : BitVec 32 := Scalar.muli v2 c8_i32_1301
  let v1543 : BitVec 32 := Scalar.addi c0_i32_1302 v1542
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1303 : BitVec 32 := 4#32
  let v1544 : BitVec 32 := Scalar.muli v5 c4_i32_1303
  let v1545 : BitVec 32 := Scalar.addi v1543 v1544
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_3 : BitVec 32 := 1#32
  let v10 : BitVec 32 := Scalar.addi v8 c1_i32_3
  let c2_i32_9 : BitVec 32 := 2#32
  let c2_i32_4 : BitVec 32 := 2#32
  let c0_i32 : BitVec 32 := 0#32
  let v11 : BitVec 1 := Scalar.cmpi .eq c2_i32_4 c0_i32
  let c1_i32_5 : BitVec 32 := 1#32
  let v12 : BitVec 32 := Scalar.select v11 c1_i32_5 c2_i32_4
  let v13 : BitVec 32 := Scalar.remsi v8 v12
  let c0_i32_7 : BitVec 32 := 0#32
  let v15 : BitVec 1 := Scalar.cmpi .slt v13 c0_i32_7
  let c0_i32_8 : BitVec 32 := 0#32
  let v16 : BitVec 1 := Scalar.cmpi .slt v12 c0_i32_8
  let v17 : BitVec 1 := Scalar.xori v15 v16
  let c0_i32_6 : BitVec 32 := 0#32
  let v14 : BitVec 1 := Scalar.cmpi .ne v13 c0_i32_6
  let v18 : BitVec 1 := Scalar.andi v17 v14
  let v19 : BitVec 32 := Scalar.addi v13 v12
  let v20 : BitVec 32 := Scalar.select v18 v19 v13
  let v21 : BitVec 32 := Scalar.muli c2_i32_9 v20
  let v22 : BitVec 32 := Scalar.subi v10 v21
  let c1_i32_1304 : BitVec 32 := 1#32
  let v1546 : BitVec 32 := Scalar.muli v22 c1_i32_1304
  let v1547 : BitVec 32 := Scalar.addi v1545 v1546
  v1547.toNat
def k0_dev31 (d0 : Dev nD) : Nat :=
  let c0_i32_1342 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1341 : BitVec 32 := 8#32
  let v1587 : BitVec 32 := Scalar.muli v2 c8_i32_1341
  let v1588 : BitVec 32 := Scalar.addi c0_i32_1342 v1587
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_1343 : BitVec 32 := 4#32
  let v1589 : BitVec 32 := Scalar.muli v9 c4_i32_1343
  let v1590 : BitVec 32 := Scalar.addi v1588 v1589
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1344 : BitVec 32 := 1#32
  let v1591 : BitVec 32 := Scalar.muli v8 c1_i32_1344
  let v1592 : BitVec 32 := Scalar.addi v1590 v1591
  v1592.toNat
def k0_dev32 (d0 : Dev nD) : Nat :=
  let c0_i32_1385 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1384 : BitVec 32 := 8#32
  let v1640 : BitVec 32 := Scalar.muli v2 c8_i32_1384
  let v1641 : BitVec 32 := Scalar.addi c0_i32_1385 v1640
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1386 : BitVec 32 := 4#32
  let v1642 : BitVec 32 := Scalar.muli v5 c4_i32_1386
  let v1643 : BitVec 32 := Scalar.addi v1641 v1642
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_3 : BitVec 32 := 1#32
  let v10 : BitVec 32 := Scalar.addi v8 c1_i32_3
  let c2_i32_9 : BitVec 32 := 2#32
  let c2_i32_4 : BitVec 32 := 2#32
  let c0_i32 : BitVec 32 := 0#32
  let v11 : BitVec 1 := Scalar.cmpi .eq c2_i32_4 c0_i32
  let c1_i32_5 : BitVec 32 := 1#32
  let v12 : BitVec 32 := Scalar.select v11 c1_i32_5 c2_i32_4
  let v13 : BitVec 32 := Scalar.remsi v8 v12
  let c0_i32_7 : BitVec 32 := 0#32
  let v15 : BitVec 1 := Scalar.cmpi .slt v13 c0_i32_7
  let c0_i32_8 : BitVec 32 := 0#32
  let v16 : BitVec 1 := Scalar.cmpi .slt v12 c0_i32_8
  let v17 : BitVec 1 := Scalar.xori v15 v16
  let c0_i32_6 : BitVec 32 := 0#32
  let v14 : BitVec 1 := Scalar.cmpi .ne v13 c0_i32_6
  let v18 : BitVec 1 := Scalar.andi v17 v14
  let v19 : BitVec 32 := Scalar.addi v13 v12
  let v20 : BitVec 32 := Scalar.select v18 v19 v13
  let v21 : BitVec 32 := Scalar.muli c2_i32_9 v20
  let v22 : BitVec 32 := Scalar.subi v10 v21
  let c1_i32_1387 : BitVec 32 := 1#32
  let v1644 : BitVec 32 := Scalar.muli v22 c1_i32_1387
  let v1645 : BitVec 32 := Scalar.addi v1643 v1644
  v1645.toNat
def k0_dev33 (d0 : Dev nD) : Nat :=
  let c0_i32_1425 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1424 : BitVec 32 := 8#32
  let v1685 : BitVec 32 := Scalar.muli v2 c8_i32_1424
  let v1686 : BitVec 32 := Scalar.addi c0_i32_1425 v1685
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_1426 : BitVec 32 := 4#32
  let v1687 : BitVec 32 := Scalar.muli v9 c4_i32_1426
  let v1688 : BitVec 32 := Scalar.addi v1686 v1687
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1427 : BitVec 32 := 1#32
  let v1689 : BitVec 32 := Scalar.muli v8 c1_i32_1427
  let v1690 : BitVec 32 := Scalar.addi v1688 v1689
  v1690.toNat
def k0_dev34 (d0 : Dev nD) : Nat :=
  let c0_i32_1468 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1467 : BitVec 32 := 8#32
  let v1738 : BitVec 32 := Scalar.muli v2 c8_i32_1467
  let v1739 : BitVec 32 := Scalar.addi c0_i32_1468 v1738
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1469 : BitVec 32 := 4#32
  let v1740 : BitVec 32 := Scalar.muli v5 c4_i32_1469
  let v1741 : BitVec 32 := Scalar.addi v1739 v1740
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_3 : BitVec 32 := 1#32
  let v10 : BitVec 32 := Scalar.addi v8 c1_i32_3
  let c2_i32_9 : BitVec 32 := 2#32
  let c2_i32_4 : BitVec 32 := 2#32
  let c0_i32 : BitVec 32 := 0#32
  let v11 : BitVec 1 := Scalar.cmpi .eq c2_i32_4 c0_i32
  let c1_i32_5 : BitVec 32 := 1#32
  let v12 : BitVec 32 := Scalar.select v11 c1_i32_5 c2_i32_4
  let v13 : BitVec 32 := Scalar.remsi v8 v12
  let c0_i32_7 : BitVec 32 := 0#32
  let v15 : BitVec 1 := Scalar.cmpi .slt v13 c0_i32_7
  let c0_i32_8 : BitVec 32 := 0#32
  let v16 : BitVec 1 := Scalar.cmpi .slt v12 c0_i32_8
  let v17 : BitVec 1 := Scalar.xori v15 v16
  let c0_i32_6 : BitVec 32 := 0#32
  let v14 : BitVec 1 := Scalar.cmpi .ne v13 c0_i32_6
  let v18 : BitVec 1 := Scalar.andi v17 v14
  let v19 : BitVec 32 := Scalar.addi v13 v12
  let v20 : BitVec 32 := Scalar.select v18 v19 v13
  let v21 : BitVec 32 := Scalar.muli c2_i32_9 v20
  let v22 : BitVec 32 := Scalar.subi v10 v21
  let c1_i32_1470 : BitVec 32 := 1#32
  let v1742 : BitVec 32 := Scalar.muli v22 c1_i32_1470
  let v1743 : BitVec 32 := Scalar.addi v1741 v1742
  v1743.toNat
def k0_off6 (d0 : Dev nD) (c0_i32_1617 : BitVec 32) : Fin 2 → Nat :=
  let c1_i32_16 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v34 : BitVec 32 := Scalar.subi c1_i32_16 v5
  let c32768_i32_17 : BitVec 32 := 32768#32
  let v35 : BitVec 32 := Scalar.muli v34 c32768_i32_17
  let c1_i32_18 : BitVec 32 := 1#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_10 : BitVec 32 := 2#32
  let c0_i32_11 : BitVec 32 := 0#32
  let v23 : BitVec 1 := Scalar.cmpi .eq c2_i32_10 c0_i32_11
  let c1_i32_12 : BitVec 32 := 1#32
  let v24 : BitVec 32 := Scalar.select v23 c1_i32_12 c2_i32_10
  let v25 : BitVec 32 := Scalar.remsi v8 v24
  let c0_i32_14 : BitVec 32 := 0#32
  let v27 : BitVec 1 := Scalar.cmpi .slt v25 c0_i32_14
  let c0_i32_15 : BitVec 32 := 0#32
  let v28 : BitVec 1 := Scalar.cmpi .slt v24 c0_i32_15
  let v29 : BitVec 1 := Scalar.xori v27 v28
  let c0_i32_13 : BitVec 32 := 0#32
  let v26 : BitVec 1 := Scalar.cmpi .ne v25 c0_i32_13
  let v30 : BitVec 1 := Scalar.andi v29 v26
  let v31 : BitVec 32 := Scalar.addi v25 v24
  let v32 : BitVec 32 := Scalar.select v30 v31 v25
  let v37 : BitVec 32 := Scalar.subi c1_i32_18 v32
  let c16384_i32_19 : BitVec 32 := 16384#32
  let v38 : BitVec 32 := Scalar.muli v37 c16384_i32_19
  let v1876 : BitVec 32 := Scalar.addi v35 v38
  let v1877 : BitVec 32 := Scalar.addi v1876 c0_i32_1617
  let c0_i32_1624 : BitVec 32 := 0#32
  ![v1877.toNat, 0]
-- ==== ReferenceIdeal.lean ====
abbrev S65536x1024 : Shape := ⟨2, ![65536, 1024]⟩

abbrev nBuf : Space → Nat
  | .hbm => 2
  | .vmem => 0
  | .smem => 0
  | _ => 0

abbrev bufTy : (tb : Table) → Fin (tcTables nBuf tb) → BufTy
  | .hbm, ⟨0, _⟩ => ⟨S65536x1024, .f32⟩
  | .hbm, ⟨1, _⟩ => ⟨S65536x1024, .bf16⟩
  | _, _ => ⟨S65536x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩

abbrev nD : Nat := 1
abbrev τ : Topo := Topo.v7x

variable {F : FTy → Type} [FloatOps F]
-- ==== Proof.KernelIdealOps.lean ====
/-
The kernel's body as a list of operations.

The printed body is straight-line: sixteen chunks, each a dozen memory operations, differing only in the chunk's number.
Here every operation is a definition over the chunk `c : Fin 16`, the body is the list of these operations in program
order, and `body_eq` says that the printed body is that list run on the device's id.
-/
module

public import proofs.«01_k».proof.Proof.Gen.KernelIdeal
public import proofs.«01_k».proof.Proof.Gen.KernelIdeal.Points
public import Idealize.ShloMosaic.Lib.Tactic

@[expose] public section

noncomputable section

namespace Cert.KernelIdeal.Ring

open Cert.KernelIdeal Cert.KernelIdeal.Gen
open Idealize.ShloMosaic Idealize.ShloMosaic.TcCoe Idealize.SL.Sem

variable {F : FTy → Type} [FloatOps F]

/-! ## The devices a device talks to -/

/-- The device across the mesh axis y: the other block of the gathered array. -/
abbrev ynbr (d : Dev nD) : Dev nD := ⟨k0_dev1 d, k0_dev1_lt d⟩
/-- The device whose number on the mesh axis z differs in the last bit: the other half of each block. -/
abbrev partner (d : Dev nD) : Dev nD := ⟨k0_dev2 d, k0_dev2_lt d⟩

/-- The device the printed text names for chunk `c`'s first remote copy. -/
def devY (d : Dev nD) : Fin 16 → Dev nD :=
  ![⟨k0_dev3 d, k0_dev3_lt d⟩, ⟨k0_dev5 d, k0_dev5_lt d⟩, ⟨k0_dev7 d, k0_dev7_lt d⟩, ⟨k0_dev9 d, k0_dev9_lt d⟩,
    ⟨k0_dev11 d, k0_dev11_lt d⟩, ⟨k0_dev13 d, k0_dev13_lt d⟩, ⟨k0_dev15 d, k0_dev15_lt d⟩, ⟨k0_dev17 d, k0_dev17_lt d⟩,
    ⟨k0_dev19 d, k0_dev19_lt d⟩, ⟨k0_dev21 d, k0_dev21_lt d⟩, ⟨k0_dev23 d, k0_dev23_lt d⟩, ⟨k0_dev25 d, k0_dev25_lt d⟩,
    ⟨k0_dev27 d, k0_dev27_lt d⟩, ⟨k0_dev29 d, k0_dev29_lt d⟩, ⟨k0_dev31 d, k0_dev31_lt d⟩, ⟨k0_dev33 d, k0_dev33_lt d⟩]
/-- The device the printed text names for chunk `c`'s second remote copy. -/
def devP (d : Dev nD) : Fin 16 → Dev nD :=
  ![⟨k0_dev4 d, k0_dev4_lt d⟩, ⟨k0_dev6 d, k0_dev6_lt d⟩, ⟨k0_dev8 d, k0_dev8_lt d⟩, ⟨k0_dev10 d, k0_dev10_lt d⟩,
    ⟨k0_dev12 d, k0_dev12_lt d⟩, ⟨k0_dev14 d, k0_dev14_lt d⟩, ⟨k0_dev16 d, k0_dev16_lt d⟩, ⟨k0_dev18 d, k0_dev18_lt d⟩,
    ⟨k0_dev20 d, k0_dev20_lt d⟩, ⟨k0_dev22 d, k0_dev22_lt d⟩, ⟨k0_dev24 d, k0_dev24_lt d⟩, ⟨k0_dev26 d, k0_dev26_lt d⟩,
    ⟨k0_dev28 d, k0_dev28_lt d⟩, ⟨k0_dev30 d, k0_dev30_lt d⟩, ⟨k0_dev32 d, k0_dev32_lt d⟩, ⟨k0_dev34 d, k0_dev34_lt d⟩]

/-! ## The arrays, the slots, the semaphores -/

abbrev xA : Memref sig .tc .hbm S32768x1024 .f32 := Memref.whole main_arg0
abbrev oA : Memref sig .tc .hbm S65536x1024 .bf16 := Memref.whole main_v1
abbrev vfA : Memref sig .tc .vmem S2x1024x1024 .f32 := Memref.whole cc0_scratch0
abbrev vbA : Memref sig .tc .vmem S4x1024x1024 .bf16 := Memref.whole cc0_scratch1
abbrev gfA : Memref sig .tc .vmem S2x1024x1024 .f32 := Memref.whole cc0_scratch2
abbrev gbA : Memref sig .tc .vmem S2x1024x1024 .bf16 := Memref.whole cc0_scratch3

theorem slot2_inb (s : Fin 2) : ∀ a, (![s.val, 0, 0] : Fin 3 → Nat) a + S1x1024x1024.size a ≤ S2x1024x1024.size a := by
  revert s; decide
theorem slot4_inb (s : Fin 4) : ∀ a, (![s.val, 0, 0] : Fin 3 → Nat) a + S1x1024x1024.size a ≤ S4x1024x1024.size a := by
  revert s; decide
theorem sem2_inb (s : Fin 2) : ∀ a, (![s.val] : Fin 1 → Nat) a + S1.size a ≤ S2.size a := by revert s; decide
theorem sem4_inb (s : Fin 4) : ∀ a, (![s.val] : Fin 1 → Nat) a + S1.size a ≤ S4.size a := by revert s; decide
theorem sem16_inb (s : Fin 16) : ∀ a, (![s.val] : Fin 1 → Nat) a + S1.size a ≤ S16.size a := by revert s; decide

abbrev rect2 (s : Fin 2) : Rect S2x1024x1024 := Rect.unit (s := S2x1024x1024) ![s.val, 0, 0] S1x1024x1024.size (slot2_inb s)
abbrev rect4 (s : Fin 4) : Rect S4x1024x1024 := Rect.unit (s := S4x1024x1024) ![s.val, 0, 0] S1x1024x1024.size (slot4_inb s)

/-- Slot `s` of a two-slot buffer, as a matrix; -/
abbrev slot2 {e : EltTy} (m : Memref sig .tc .vmem S2x1024x1024 e) (s : Fin 2) : Memref sig .tc .vmem S1024x1024 e :=
  (m.slice (rect2 s) (fun _ => rfl)).squeeze S1024x1024 squeezes_S1x1024x1024_S1024x1024
/-- of a four-slot buffer. -/
abbrev slot4 {e : EltTy} (m : Memref sig .tc .vmem S4x1024x1024 e) (s : Fin 4) : Memref sig .tc .vmem S1024x1024 e :=
  (m.slice (rect4 s) (fun _ => rfl)).squeeze S1024x1024 squeezes_S1x1024x1024_S1024x1024

abbrev sem2 (a : DmaSems sig S2) (s : Fin 2) : DmaSem sig :=
  ((a.slice (Rect.unit (s := S2) ![s.val] S1.size (sem2_inb s))).squeeze S_ squeezes_S1_S_).sem
abbrev sem4 (a : DmaSems sig S4) (s : Fin 4) : DmaSem sig :=
  ((a.slice (Rect.unit (s := S4) ![s.val] S1.size (sem4_inb s))).squeeze S_ squeezes_S1_S_).sem
abbrev sem16 (a : DmaSems sig S16) (s : Fin 16) : DmaSem sig :=
  ((a.slice (Rect.unit (s := S16) ![s.val] S1.size (sem16_inb s))).squeeze S_ squeezes_S1_S_).sem

/-- Chunk `c`'s slot among two and among four. -/
abbrev m2 (c : Fin 16) : Fin 2 := ⟨c.val % 2, Nat.mod_lt _ (by decide)⟩
abbrev m4 (c : Fin 16) : Fin 4 := ⟨c.val % 4, Nat.mod_lt _ (by decide)⟩

abbrev inS (c : Fin 16) : DmaSem sig := sem2 cc0_scratch4 (m2 c)
abbrev stS (c : Fin 16) : DmaSem sig := sem4 cc0_scratch5 (m4 c)
abbrev inG (c : Fin 16) : DmaSem sig := sem2 cc0_scratch6 (m2 c)
abbrev stG (c : Fin 16) : DmaSem sig := sem2 cc0_scratch7 (m2 c)
abbrev ysS (c : Fin 16) : DmaSem sig := sem16 cc0_scratch8 c
abbrev yrS (c : Fin 16) : DmaSem sig := sem16 cc0_scratch9 c
abbrev fsS (c : Fin 16) : DmaSem sig := sem16 cc0_scratch10 c
abbrev frS (c : Fin 16) : DmaSem sig := sem16 cc0_scratch11 c
/-- The runtime's barrier semaphore. -/
abbrev barS : Sem sig := (SemArray.scalar (sig.barrier 0 rfl) : Sems sig S_).sem

abbrev word (c : Fin 16) : BitVec 32 := BitVec.ofNat 32 (1024 * c.val)

/-- Chunk `c` of the half of the argument this device sends; -/
abbrev xSend (d : Dev nD) (c : Fin 16) : Memref sig .tc .hbm S1024x1024 .f32 :=
  xA.slice (Rect.unit (s := S32768x1024) (k0_off1 d (word c)) S1024x1024.size (k0_off1_inb d c)) (fun _ => rfl)
/-- of the other half, which it only stores. -/
abbrev xFill (d : Dev nD) (c : Fin 16) : Memref sig .tc .hbm S1024x1024 .f32 :=
  xA.slice (Rect.unit (s := S32768x1024) (k0_off2 d (word c)) S1024x1024.size (k0_off2_inb d c)) (fun _ => rfl)
/-- Where chunk `c` of the sent half lands in the result (here, and on the device across y); -/
abbrev oSend (d : Dev nD) (c : Fin 16) : Memref sig .tc .hbm S1024x1024 .bf16 :=
  oA.slice (Rect.unit (s := S65536x1024) (k0_off3 d (word c)) S1024x1024.size (k0_off3_inb d c)) (fun _ => rfl)
/-- of the other half; -/
abbrev oFill (d : Dev nD) (c : Fin 16) : Memref sig .tc .hbm S1024x1024 .bf16 :=
  oA.slice (Rect.unit (s := S65536x1024) (k0_off4 d (word c)) S1024x1024.size (k0_off4_inb d c)) (fun _ => rfl)
/-- where the chunk from across y lands, which is then forwarded; -/
abbrev oRecv (d : Dev nD) (c : Fin 16) : Memref sig .tc .hbm S1024x1024 .bf16 :=
  oA.slice (Rect.unit (s := S65536x1024) (k0_off5 d (word c)) S1024x1024.size (k0_off5_inb d c)) (fun _ => rfl)
/-- where the partner's forwarded chunk lands. -/
abbrev oFwd (d : Dev nD) (c : Fin 16) : Memref sig .tc .hbm S1024x1024 .bf16 :=
  oA.slice (Rect.unit (s := S65536x1024) (k0_off6 d (word c)) S1024x1024.size (k0_off6_inb d c)) (fun _ => rfl)

theorem vbA_whole : (vbA : Memref sig .tc .vmem S4x1024x1024 .bf16).IsWhole := Memref.isWhole_whole _
theorem gbA_whole : (gbA : Memref sig .tc .vmem S2x1024x1024 .bf16).IsWhole := Memref.isWhole_whole _
theorem oA_whole : (oA : Memref sig .tc .hbm S65536x1024 .bf16).IsWhole := Memref.isWhole_whole _

theorem words4 (s : Fin 4) : (rect4 s).WholeWords (EltTy.packing .bf16) := by
  fin_cases s
  · exact wordsbf16_S4x1024x1024_S1x1024x1024_0_0_0
  · exact wordsbf16_S4x1024x1024_S1x1024x1024_1_0_0
  · exact wordsbf16_S4x1024x1024_S1x1024x1024_2_0_0
  · exact wordsbf16_S4x1024x1024_S1x1024x1024_3_0_0
theorem words2 (s : Fin 2) : (rect2 s).WholeWords (EltTy.packing .bf16) := by
  fin_cases s
  · exact wordsbf16_S2x1024x1024_S1x1024x1024_0_0_0
  · exact wordsbf16_S2x1024x1024_S1x1024x1024_1_0_0

theorem exact_vf (s : Fin 2) : (slot2 vfA s).view.WordExact := (View.wordExact_bits rfl).reshape _ _
theorem exact_gf (s : Fin 2) : (slot2 gfA s).view.WordExact := (View.wordExact_bits rfl).reshape _ _
theorem exact_vb (s : Fin 4) : (slot4 vbA s).view.WordExact := (vbA_whole.wordExact_slice rfl _ (words4 s)).reshape _ _
theorem exact_gb (s : Fin 2) : (slot2 gbA s).view.WordExact := (gbA_whole.wordExact_slice rfl _ (words2 s)).reshape _ _
theorem exact_xSend (d : Dev nD) (c : Fin 16) : (xSend d c).view.WordExact := View.wordExact_bits rfl
theorem exact_xFill (d : Dev nD) (c : Fin 16) : (xFill d c).view.WordExact := View.wordExact_bits rfl
theorem exact_oSend (d : Dev nD) (c : Fin 16) : (oSend d c).view.WordExact := oA_whole.wordExact_slice rfl _ (k0_off3_wordsbf16 d c)
theorem exact_oFill (d : Dev nD) (c : Fin 16) : (oFill d c).view.WordExact := oA_whole.wordExact_slice rfl _ (k0_off4_wordsbf16 d c)
theorem exact_oRecv (d : Dev nD) (c : Fin 16) : (oRecv d c).view.WordExact := oA_whole.wordExact_slice rfl _ (k0_off5_wordsbf16 d c)
theorem exact_oFwd (d : Dev nD) (c : Fin 16) : (oFwd d c).view.WordExact := oA_whole.wordExact_slice rfl _ (k0_off6_wordsbf16 d c)

theorem stores4 (s : Fin 4) : (vbA.access (rect4 s)).Stores Finset.univ := by
  fin_cases s
  · exact View.stores_vmem h_S1x1024x1024 (vbA_whole.storeExact_slice rfl _ packedbf16_S4x1024x1024_S1x1024x1024_0_0_0) (fun _ => rfl)
  · exact View.stores_vmem h_S1x1024x1024 (vbA_whole.storeExact_slice rfl _ packedbf16_S4x1024x1024_S1x1024x1024_1_0_0) (fun _ => rfl)
  · exact View.stores_vmem h_S1x1024x1024 (vbA_whole.storeExact_slice rfl _ packedbf16_S4x1024x1024_S1x1024x1024_2_0_0) (fun _ => rfl)
  · exact View.stores_vmem h_S1x1024x1024 (vbA_whole.storeExact_slice rfl _ packedbf16_S4x1024x1024_S1x1024x1024_3_0_0) (fun _ => rfl)
theorem stores2 (s : Fin 2) : (gbA.access (rect2 s)).Stores Finset.univ := by
  fin_cases s
  · exact View.stores_vmem h_S1x1024x1024 (gbA_whole.storeExact_slice rfl _ packedbf16_S2x1024x1024_S1x1024x1024_0_0_0) (fun _ => rfl)
  · exact View.stores_vmem h_S1x1024x1024 (gbA_whole.storeExact_slice rfl _ packedbf16_S2x1024x1024_S1x1024x1024_1_0_0) (fun _ => rfl)

/-! ## The operations -/

/-- A matrix of the argument's type rounded to the result's. -/
def castT (v : Vec F S1024x1024 .f32) : FVec F S1024x1024 .bf16 := truncf .bf16 v bitsLt_bf16_f32
/-- What a chunk's store writes of the slot it loads. -/
def castV (v : Vec F S1x1024x1024 .f32) : FVec F S1x1024x1024 .bf16 :=
  shapeCast S1x1024x1024 (castT (shapeCast S1024x1024 v shapeCasts_S1x1024x1024_S1024x1024)) shapeCasts_S1024x1024_S1x1024x1024

/-- The body's operations, each named with the chunk it works on. -/
inductive Op where
  | sigY | sigP | barWait
  | inStart (c : Fin 16) | inWait (c : Fin 16) | gStart (c : Fin 16) | gWait (c : Fin 16)
  | castS (c : Fin 16) | castG (c : Fin 16)
  | stStart (c : Fin 16) | stWait (c : Fin 16) | fillStart (c : Fin 16) | fillWait (c : Fin 16)
  | yStart (c : Fin 16) | ysWait (c : Fin 16) | yrWait (c : Fin 16)
  | fwStart (c : Fin 16) | fsWait (c : Fin 16) | frWait (c : Fin 16)

/-- Each operation as the printed text has it, before what follows it. -/
def Op.sem (d : Dev nD) (k : Prog (TpuEff nD τ sig (Elt F) Λ₀ .tc) PUnit) : Op → Prog (TpuEff nD τ sig (Elt F) Λ₀ .tc) PUnit
  | .sigY => .op (.semSignal ((ynbr d, .tc) : Thread nD τ) barS (1#32).toInt) fun _ => k
  | .sigP => .op (.semSignal ((partner d, .tc) : Thread nD τ) barS (1#32).toInt) fun _ => k
  | .barWait => .op (.semWait barS (2#32).toInt) fun _ => k
  | .inStart c => .op (.enqueueDma (xSend d c) (.here (slot2 vfA (m2 c))) (.dma (inS c)) (exact_xSend d c) (exact_vf _) ⟨Or.inl rfl, trivial⟩) fun _ => k
  | .inWait c => .op (.waitDma2 (inS c) (xSend d c) (slot2 vfA (m2 c)) (exact_xSend d c) (exact_vf _)) fun _ => k
  | .gStart c => .op (.enqueueDma (xFill d c) (.here (slot2 gfA (m2 c))) (.dma (inG c)) (exact_xFill d c) (exact_gf _) ⟨Or.inl rfl, trivial⟩) fun _ => k
  | .gWait c => .op (.waitDma2 (inG c) (xFill d c) (slot2 gfA (m2 c)) (exact_xFill d c) (exact_gf _)) fun _ => k
  | .castS c => .op (.load vfA (rect2 (m2 c)).toLoadRect (View.loadsAt_vmem h_S1x1024x1024)) fun v =>
      .op (.load vbA (rect4 (m4 c)).toLoadRect (View.loadsAt_vmem h_S1x1024x1024)) fun _ =>
        .op (.store vbA (rect4 (m4 c)) (castV v) Finset.univ (stores4 _) (.inl rfl)) fun _ => k
  | .castG c => .op (.load gfA (rect2 (m2 c)).toLoadRect (View.loadsAt_vmem h_S1x1024x1024)) fun v =>
      .op (.load gbA (rect2 (m2 c)).toLoadRect (View.loadsAt_vmem h_S1x1024x1024)) fun _ =>
        .op (.store gbA (rect2 (m2 c)) (castV v) Finset.univ (stores2 _) (.inl rfl)) fun _ => k
  | .stStart c => .op (.enqueueDma (slot4 vbA (m4 c)) (.here (oSend d c)) (.dma (stS c)) (exact_vb _) (exact_oSend d c) ⟨Or.inl rfl, trivial⟩) fun _ => k
  | .stWait c => .op (.waitDma2 (stS c) (slot4 vbA (m4 c)) (oSend d c) (exact_vb _) (exact_oSend d c)) fun _ => k
  | .fillStart c => .op (.enqueueDma (slot2 gbA (m2 c)) (.here (oFill d c)) (.dma (stG c)) (exact_gb _) (exact_oFill d c) ⟨Or.inl rfl, trivial⟩) fun _ => k
  | .fillWait c => .op (.waitDma2 (stG c) (slot2 gbA (m2 c)) (oFill d c) (exact_gb _) (exact_oFill d c)) fun _ => k
  | .yStart c => .op (.enqueueDma (slot4 vbA (m4 c)) (.remote (Dev.tc (devY d c)) (oSend d c) (.dma (ysS c))) (.dma (yrS c)) (exact_vb _) (exact_oSend d c)
      ⟨⟨rfl, Or.inl rfl⟩, trivial⟩) fun _ => k
  | .ysWait c => .op (.waitDma2 (ysS c) (oSend d c) (slot4 vbA (m4 c)) (exact_oSend d c) (exact_vb _)) fun _ => k
  | .yrWait c => .op (.waitDma2 (yrS c) (oRecv d c) (oRecv d c) (exact_oRecv d c) (exact_oRecv d c)) fun _ => k
  | .fwStart c => .op (.enqueueDma (oRecv d c) (.remote (Dev.tc (devP d c)) (oRecv d c) (.dma (fsS c))) (.dma (frS c)) (exact_oRecv d c) (exact_oRecv d c)
      ⟨⟨rfl, Or.inl rfl⟩, trivial⟩) fun _ => k
  | .fsWait c => .op (.waitDma2 (fsS c) (oRecv d c) (oRecv d c) (exact_oRecv d c) (exact_oRecv d c)) fun _ => k
  | .frWait c => .op (.waitDma2 (frS c) (oFwd d c) (oFwd d c) (exact_oFwd d c) (exact_oFwd d c)) fun _ => k

/-- A list of operations run in order, then `k`. -/
def run (d : Dev nD) (k : Prog (TpuEff nD τ sig (Elt F) Λ₀ .tc) PUnit) : List Op → Prog (TpuEff nD τ sig (Elt F) Λ₀ .tc) PUnit
  | [] => k
  | o :: l => o.sem d (run d k l)

theorem run_append (d : Dev nD) (k : Prog (TpuEff nD τ sig (Elt F) Λ₀ .tc) PUnit) (l l' : List Op) :
    run d k (l ++ l') = run d (run d k l') l := by
  induction l with
  | nil => rfl
  | cons o l ih => exact congrArg (fun p => Op.sem d p o) ih

/-- Before the chunks: the first two chunks of both halves on their way in, and the handshake. -/
def opsStart : List Op := [.inStart 0, .gStart 0, .inStart 1, .gStart 1, .sigY, .sigP, .barWait]

/-- Chunk `c`: the sent half's cast, store and remote copy; the other half's cast and store; the arrival forwarded. -/
def opsChunk (c : Fin 16) : List Op :=
  [.inWait c]
  ++ (if h : 4 ≤ c.val then [.ysWait ⟨c.val - 4, by omega⟩, .stWait ⟨c.val - 4, by omega⟩] else [])
  ++ [.castS c]
  ++ (if h : c.val + 2 < 16 then [.inStart ⟨c.val + 2, h⟩] else [])
  ++ [.stStart c, .yStart c, .gWait c]
  ++ (if h : 2 ≤ c.val then [.fillWait ⟨c.val - 2, by omega⟩] else [])
  ++ [.castG c]
  ++ (if h : c.val + 2 < 16 then [.gStart ⟨c.val + 2, h⟩] else [])
  ++ [.fillStart c, .yrWait c, .fwStart c]

/-- After the chunks: every copy still in flight waited for. -/
def opsEnd : List Op :=
  [.ysWait 12, .stWait 12, .ysWait 13, .stWait 13, .ysWait 14, .stWait 14, .ysWait 15, .stWait 15, .fillWait 14, .fillWait 15]
  ++ (List.finRange 16).map .fsWait ++ (List.finRange 16).map .frWait

def ops : List Op := opsStart ++ (List.finRange 16).flatMap opsChunk ++ opsEnd

set_option maxRecDepth 65536 in
/-- The printed body is the list of operations, run on the device's id. -/
theorem body_eq (t : Fin cfg0.N) : bodyAt0 (F := F) t = .op .deviceId fun d => run d (.ret ⟨⟩) ops := by
  sl_kernel_rfl

end Cert.KernelIdeal.Ring

end
-- ==== Proof.KernelIdealMesh.lean ====
/-
The mesh and the chunks.

Sixteen devices; a device exchanges with the one across the axis y and with its partner on the axis z. The argument is
32 chunks of 1024 rows, the result 64. Here: which chunk each operation of the body touches, and what chunk `j` of device
`d`'s result is to hold at the end.
-/
module

public import proofs.«01_k».proof.Proof.KernelIdealOps

@[expose] public section

noncomputable section

namespace Cert.KernelIdeal.Ring

open Cert.KernelIdeal Cert.KernelIdeal.Gen
open Idealize.ShloMosaic Idealize.ShloMosaic.TcCoe Idealize.SL.Sem

variable {F : FTy → Type} [FloatOps F]

/-! ## Devices -/

theorem ynbr_ynbr (d : Dev nD) : ynbr (ynbr d) = d := by revert d; decide +kernel
theorem partner_partner (d : Dev nD) : partner (partner d) = d := by revert d; decide +kernel
theorem devY_eq (d : Dev nD) (c : Fin 16) : devY d c = ynbr d := by revert d c; decide +kernel
theorem devP_eq (d : Dev nD) (c : Fin 16) : devP d c = partner d := by revert d c; decide +kernel

/-- Crossing the axis y, as an equivalence; -/
def acrossY : Dev nD ≃ Dev nD := ⟨ynbr, ynbr, ynbr_ynbr, ynbr_ynbr⟩
/-- crossing to the partner. -/
def acrossZ : Dev nD ≃ Dev nD := ⟨partner, partner, partner_partner, partner_partner⟩

/-! ## Chunks -/

/-- Chunk number `n` (counted from zero, taken round sixteen). -/
def fk (n : ℕ) : Fin 16 := ⟨n % 16, Nat.mod_lt _ (by decide)⟩
theorem fk_val (k : Fin 16) : fk k.val = k := Fin.ext (Nat.mod_eq_of_lt k.isLt)
theorem fk_lt {n : ℕ} (h : n < 16) : (fk n).val = n := Nat.mod_eq_of_lt h

set_option backward.proofsInPublic true in
/-- The argument's chunk a device sends as its `k`th; -/
def iS (d : Dev nD) (k : Fin 16) : Fin 32 := ⟨16 * (d.val % 2) + k.val, by omega⟩
set_option backward.proofsInPublic true in
/-- the one it only stores. -/
def iF (d : Dev nD) (k : Fin 16) : Fin 32 := ⟨16 * (1 - d.val % 2) + k.val, by omega⟩
set_option backward.proofsInPublic true in
/-- The result's chunk holding the device's own sent half; -/
def jS (d : Dev nD) (k : Fin 16) : Fin 64 := ⟨32 * (d.val / 4 % 2) + 16 * (d.val % 2) + k.val, by omega⟩
set_option backward.proofsInPublic true in
/-- its own other half; -/
def jF (d : Dev nD) (k : Fin 16) : Fin 64 := ⟨32 * (d.val / 4 % 2) + 16 * (1 - d.val % 2) + k.val, by omega⟩
set_option backward.proofsInPublic true in
/-- what arrives from across y; -/
def jR (d : Dev nD) (k : Fin 16) : Fin 64 := ⟨32 * (1 - d.val / 4 % 2) + 16 * (d.val % 2) + k.val, by omega⟩
set_option backward.proofsInPublic true in
/-- what the partner forwards. -/
def jW (d : Dev nD) (k : Fin 16) : Fin 64 := ⟨32 * (1 - d.val / 4 % 2) + 16 * (1 - d.val % 2) + k.val, by omega⟩

theorem xC_inb (i : Fin 32) : ∀ a, (![1024 * i.val, 0] : Fin 2 → ℕ) a + S1024x1024.size a ≤ S32768x1024.size a := by
  revert i; decide
theorem oC_inb (j : Fin 64) : ∀ a, (![1024 * j.val, 0] : Fin 2 → ℕ) a + S1024x1024.size a ≤ S65536x1024.size a := by
  revert j; decide

/-- The rectangle of the argument's chunk `i`; of the result's chunk `j`. -/
abbrev rectX (i : Fin 32) : Rect S32768x1024 := Rect.unit (s := S32768x1024) ![1024 * i.val, 0] S1024x1024.size (xC_inb i)
abbrev rectO (j : Fin 64) : Rect S65536x1024 := Rect.unit (s := S65536x1024) ![1024 * j.val, 0] S1024x1024.size (oC_inb j)
/-- The argument's chunk `i`; the result's chunk `j`. -/
abbrev xC (i : Fin 32) : Memref sig .tc .hbm S1024x1024 .f32 := xA.slice (rectX i) (fun _ => rfl)
abbrev oC (j : Fin 64) : Memref sig .tc .hbm S1024x1024 .bf16 := oA.slice (rectO j) (fun _ => rfl)

theorem xSlice_congr {o o' : Fin 2 → ℕ} (h : o = o') (hb : ∀ a, o a + S1024x1024.size a ≤ S32768x1024.size a)
    (hb' : ∀ a, o' a + S1024x1024.size a ≤ S32768x1024.size a) :
    (xA.slice (Rect.unit (s := S32768x1024) o S1024x1024.size hb) (fun _ => rfl) : Memref sig .tc .hbm S1024x1024 .f32)
      = xA.slice (Rect.unit (s := S32768x1024) o' S1024x1024.size hb') (fun _ => rfl) := by subst h; rfl
theorem oSlice_congr {o o' : Fin 2 → ℕ} (h : o = o') (hb : ∀ a, o a + S1024x1024.size a ≤ S65536x1024.size a)
    (hb' : ∀ a, o' a + S1024x1024.size a ≤ S65536x1024.size a) :
    (oA.slice (Rect.unit (s := S65536x1024) o S1024x1024.size hb) (fun _ => rfl) : Memref sig .tc .hbm S1024x1024 .bf16)
      = oA.slice (Rect.unit (s := S65536x1024) o' S1024x1024.size hb') (fun _ => rfl) := by subst h; rfl

theorem off1_at (d : Dev nD) (c : Fin 16) : k0_off1 d (word c) = ![1024 * (iS d c).val, 0] := by revert d c; decide +kernel
theorem off2_at (d : Dev nD) (c : Fin 16) : k0_off2 d (word c) = ![1024 * (iF d c).val, 0] := by revert d c; decide +kernel
theorem off3_at (d : Dev nD) (c : Fin 16) : k0_off3 d (word c) = ![1024 * (jS d c).val, 0] := by revert d c; decide +kernel
theorem off4_at (d : Dev nD) (c : Fin 16) : k0_off4 d (word c) = ![1024 * (jF d c).val, 0] := by revert d c; decide +kernel
theorem off5_at (d : Dev nD) (c : Fin 16) : k0_off5 d (word c) = ![1024 * (jR d c).val, 0] := by revert d c; decide +kernel
theorem off6_at (d : Dev nD) (c : Fin 16) : k0_off6 d (word c) = ![1024 * (jW d c).val, 0] := by revert d c; decide +kernel

theorem xSend_eq (d : Dev nD) (c : Fin 16) : xSend d c = xC (iS d c) := xSlice_congr (off1_at d c) _ _
theorem xFill_eq (d : Dev nD) (c : Fin 16) : xFill d c = xC (iF d c) := xSlice_congr (off2_at d c) _ _
theorem oSend_eq (d : Dev nD) (c : Fin 16) : oSend d c = oC (jS d c) := oSlice_congr (off3_at d c) _ _
theorem oFill_eq (d : Dev nD) (c : Fin 16) : oFill d c = oC (jF d c) := oSlice_congr (off4_at d c) _ _
theorem oRecv_eq (d : Dev nD) (c : Fin 16) : oRecv d c = oC (jR d c) := oSlice_congr (off5_at d c) _ _
theorem oFwd_eq (d : Dev nD) (c : Fin 16) : oFwd d c = oC (jW d c) := oSlice_congr (off6_at d c) _ _

/-! ## What the result is to hold -/

variable (m : (ℓ : Loc nD τ sig) → Buf (Elt F) ℓ)

/-- The device whose argument chunk `j` of device `d`'s result comes from. -/
def srcD (d : Dev nD) (j : Fin 64) : Dev nD :=
  if j.val / 32 = d.val / 4 % 2 then d else if j.val % 32 / 16 = d.val % 2 then ynbr d else ynbr (partner d)
/-- Which chunk of that argument it is. -/
def jx (j : Fin 64) : Fin 32 := ⟨j.val % 32, Nat.mod_lt _ (by decide)⟩

theorem srcD_S (d : Dev nD) (k : Fin 16) : srcD d (jS d k) = d := by revert d k; decide +kernel
theorem srcD_F (d : Dev nD) (k : Fin 16) : srcD d (jF d k) = d := by revert d k; decide +kernel
/-- A device and the one across y agree on where the chunk passed between them comes from; -/
theorem srcD_y (d : Dev nD) (k : Fin 16) : srcD (ynbr d) (jS d k) = srcD d (jS d k) := by revert d k; decide +kernel
/-- so do a device and its partner. -/
theorem srcD_p (d : Dev nD) (k : Fin 16) : srcD (partner d) (jR d k) = srcD d (jR d k) := by revert d k; decide +kernel
theorem jx_S (d : Dev nD) (k : Fin 16) : jx (jS d k) = iS d k := by revert d k; decide +kernel
theorem jx_F (d : Dev nD) (k : Fin 16) : jx (jF d k) = iF d k := by revert d k; decide +kernel
theorem jR_y (d : Dev nD) (k : Fin 16) : jR (ynbr d) k = jS d k := by revert d k; decide +kernel
theorem jS_y (d : Dev nD) (k : Fin 16) : jS (ynbr d) k = jR d k := by revert d k; decide +kernel
theorem jW_p (d : Dev nD) (k : Fin 16) : jW (partner d) k = jR d k := by revert d k; decide +kernel
theorem jR_p (d : Dev nD) (k : Fin 16) : jR (partner d) k = jW d k := by revert d k; decide +kernel

/-- Chunk `i` of device `e`'s argument. -/
def xt (e : Dev nD) (i : Fin 32) : Vec F S1024x1024 .f32 := (xC i).view.read (Elt F) (m ((xC i).view.loc (e : Thread nD τ)))
/-- Chunk `j` of device `d`'s result: the source's chunk, rounded. -/
def tile (d : Dev nD) (j : Fin 64) : Vec F S1024x1024 .bf16 := castT (xt m (srcD d j) (jx j))

theorem tile_S (d : Dev nD) (k : Fin 16) : tile m d (jS d k) = castT (xt m d (iS d k)) := by unfold tile; rw [srcD_S, jx_S]
theorem tile_F (d : Dev nD) (k : Fin 16) : tile m d (jF d k) = castT (xt m d (iF d k)) := by unfold tile; rw [srcD_F, jx_F]
theorem tile_y (d : Dev nD) (k : Fin 16) : tile m (ynbr d) (jR (ynbr d) k) = tile m d (jS d k) := by
  unfold tile; rw [jR_y, srcD_y]
theorem tile_p (d : Dev nD) (k : Fin 16) : tile m (partner d) (jW (partner d) k) = tile m d (jR d k) := by
  unfold tile; rw [jW_p, srcD_p]

end Cert.KernelIdeal.Ring

end
-- ==== Proof.KernelIdealSched.lean ====
/-
The cells and their schedule.

Every device has a barrier cell, which both its neighbours signal once, and sixteen cells of each of four kinds for the
remote copies: the copy across y as sent and as received, the copy to the partner as sent and as received. Here: what
each cell's round hands its owner, what a device owes at launch, and the levels that order the waits.
-/
module

public import proofs.«01_k».proof.Proof.KernelIdealMesh
public import Idealize.ShloMosaic.Lib.Pipeline.Launch
public import Idealize.ShloMosaic.Lib.Pipeline.Kit
public import Idealize.ShloMosaic.Lib.Transfers

@[expose] public section

noncomputable section

namespace Cert.KernelIdeal.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resource algebra: the launch's copy, the cells' (duties `Bool`), the local copies' counters -/

abbrev UB : Type := URounds (GSem nD τ sig) Bool
abbrev UU : Type := UR sig nD τ × (UB × Counters)

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := (Emb.inl : Emb UB (UB × Counters)).trans embR
abbrev EC : UEmb Counters (MT nD τ sig Unit (Elt F) ℕ UU ℕ) := countersEmb

abbrev 𝒱₀ : Variants := Variants.none

variable (m : (ℓ : Loc nD τ sig) → Buf (Elt F) ℓ)

/-! ## Resources -/

/-- The argument's chunk `i` on device `d`, at what it held at launch. -/
def xOwn (d : Dev nD) (i : Fin 32) : sProp 𝕄 :=
  (xC i).view.loc (d : Thread nD τ) ↦[(xC i).view.set]{fullShare} m ((xC i).view.loc (d : Thread nD τ))
/-- What a matrix names on device `d`, holding anything. -/
def hold (d : Dev nD) {sp : Space} {e : EltTy} (M : Memref sig .tc sp S1024x1024 e) : sProp 𝕄 :=
  iprop(∃ f : Buf (Elt F) (M.view.loc (d : Thread nD τ)), M.view.loc (d : Thread nD τ) ↦[M.view.set]{fullShare} f)
/-- The result's chunk `j` on device `d`, holding what it is to hold. -/
def oOwn (d : Dev nD) (j : Fin 64) : sProp 𝕄 := owns (d : Thread nD τ) (oC j) fullShare (tile m d j)

instance hold_storable (d : Dev nD) {sp : Space} {e : EltTy} (M : Memref sig .tc sp S1024x1024 e) :
    BI.Storable (upEmb : UEmb _ 𝕄) (hold (F := F) d M) := by unfold hold; infer_instance
instance oOwn_storable (d : Dev nD) (j : Fin 64) : BI.Storable (upEmb : UEmb _ 𝕄) (oOwn m d j) := by
  unfold oOwn; infer_instance

/-! ## The cells -/

/-- The semaphore of kind `a` (sent across y, received across y, sent to the partner, received from the partner) of chunk `k`. -/
abbrev xs : Fin 4 → Fin 16 → DmaSem sig
  | 0, k => ysS k
  | 1, k => yrS k
  | 2, k => fsS k
  | 3, k => frS k
/-- The kind and chunk of a semaphore, if it is one of these. -/
def kindOf (n : DmaSem sig) : Option (Fin 4 × Fin 16) :=
  if 10 ≤ n.val then some (⟨(n.val - 10) / 16 % 4, Nat.mod_lt _ (by decide)⟩, ⟨(n.val - 10) % 16, Nat.mod_lt _ (by decide)⟩) else none

theorem kindOf_xs (a : Fin 4) (k : Fin 16) : kindOf (xs a k) = some (a, k) := by revert a k; decide +kernel
theorem kindOf_inS (k : Fin 16) : kindOf (inS k) = none := by revert k; decide +kernel
theorem kindOf_inG (k : Fin 16) : kindOf (inG k) = none := by revert k; decide +kernel
theorem kindOf_stS (k : Fin 16) : kindOf (stS k) = none := by revert k; decide +kernel
theorem kindOf_stG (k : Fin 16) : kindOf (stG k) = none := by revert k; decide +kernel

abbrev Kd : Type := Option (Fin 4 × Fin 16)
abbrev csem : Kd → SemLoc sig
  | none => .reg barS
  | some ak => .dma (xs ak.1 ak.2)
abbrev kcell (ck : Dev nD × Kd) : GSem nD τ sig := ((ck.1 : Thread nD τ), csem ck.2)
abbrev barC (d : Dev nD) : GSem nD τ sig := ((d : Thread nD τ), .reg barS)
abbrev xc (d : Dev nD) (a : Fin 4) (k : Fin 16) : GSem nD τ sig := ((d : Thread nD τ), .dma (xs a k))

/-- What one chunk's copy counts on its semaphore, at either end. -/
abbrev N : ℕ := (oC 0).view.dmaCredit
theorem N_pos : 0 < N := View.dmaCredit_pos _ (by decide)
theorem credit_vb (s : Fin 4) : (slot4 vbA s).view.dmaCredit = N := rfl
theorem credit_o (j : Fin 64) : (oC j).view.dmaCredit = N := rfl

/-! ## The schedule -/

/-- What the signal named `b` hands device `d`: the chunks of the signaller's result that `d` is to write. -/
def barPay (d : Dev nD) (b : Bool) : sProp 𝕄 :=
  if b then bigSep Finset.univ fun k : Fin 16 => hold (partner d) (oC (jR d k))
  else bigSep Finset.univ fun k : Fin 16 => hold (ynbr d) (oC (jS d k))
/-- What a copy's semaphore hands device `d`: a sent copy the source's share, a received one the chunk. -/
def xPay (d : Dev nD) : Fin 4 → Fin 16 → sProp 𝕄
  | 0, k => owns (d : Thread nD τ) (slot4 vbA (m4 k)) fullShare.right (tile m d (jS d k))
  | 1, k => oOwn m d (jR d k)
  | 2, k => oOwn m d (jR d k)
  | 3, k => oOwn m d (jW d k)

instance barPay_storable (d : Dev nD) (b : Bool) : BI.Storable (upEmb : UEmb _ 𝕄) (barPay (F := F) d b) := by
  unfold barPay; split <;> infer_instance
instance xPay_storable (d : Dev nD) (a : Fin 4) (k : Fin 16) : BI.Storable (upEmb : UEmb _ 𝕄) (xPay m d a k) := by
  fin_cases a <;> (unfold xPay; infer_instance)

/-- One round: a barrier cell has two duties of one unit, every copy's cell one duty of the chunk's credit. -/
def Rd : Rounds.Schedule (GSem nD τ sig) Bool 𝕄 where
  duties g r := if r = 0 then (match g.2 with | .reg _ => Finset.univ | .dma _ => {false}) else ∅
  unitless _ := False
  amount g _ _ := match g.2 with | .reg _ => 1 | .dma _ => N
  payload g _ b := match g.2 with
    | .reg _ => barPay g.1.1 b
    | .dma n => match kindOf n with
      | some ak => xPay m g.1.1 ak.1 ak.2
      | none => iprop(emp)
  amount_pos g _ _ _ := by split; exacts [Nat.one_pos, N_pos]

instance Rd_payload_storable (g : GSem nD τ sig) (r : ℕ) (b : Bool) :
    BI.Storable (upEmb : UEmb _ 𝕄) ((Rd (F := F) m).payload g r b) := by
  dsimp only [Rd]
  (repeat' split) <;> infer_instance

section Sched
variable (d : Dev nD) (a : Fin 4) (k : Fin 16)

theorem duties_bar : (Rd (F := F) m).duties (barC d) 0 = Finset.univ := rfl
theorem duties_xc : (Rd (F := F) m).duties (xc d a k) 0 = {false} := rfl
theorem duties_later (g : GSem nD τ sig) : ∀ r, 1 ≤ r → (Rd (F := F) m).duties g r = ∅ :=
  fun r hr => if_neg (by omega)
theorem mem_xc : false ∈ (Rd (F := F) m).duties (xc d a k) 0 := by rw [duties_xc]; exact Finset.mem_singleton_self _
theorem amount_bar (b : Bool) : (Rd (F := F) m).amount (barC d) 0 b = 1 := rfl
theorem amount_xc (b : Bool) : (Rd (F := F) m).amount (xc d a k) 0 b = N := rfl
theorem expect_bar : (Rd (F := F) m).expect (barC d) 0 = 2 := by
  unfold Schedule.expect Schedule.amountOf
  rw [duties_bar, Finset.sum_congr rfl fun b _ => amount_bar m d b, Finset.sum_const, Finset.card_univ, Fintype.card_bool, smul_eq_mul]
/-- A round of one duty expects that duty's amount. -/
theorem expect_one (g : GSem nD τ sig) (h : (Rd (F := F) m).duties g 0 = {false}) :
    (Rd (F := F) m).expect g 0 = (Rd (F := F) m).amount g 0 false := by
  unfold Schedule.expect Schedule.amountOf; rw [h, Finset.sum_singleton]
theorem expect_xc : (Rd (F := F) m).expect (xc d a k) 0 = N :=
  (expect_one m (xc d a k) (duties_xc m d a k)).trans (amount_xc m d a k false)
theorem payload_bar (b : Bool) : (Rd (F := F) m).payload (barC d) 0 b = barPay d b := rfl
theorem payload_xc (b : Bool) : (Rd (F := F) m).payload (xc d a k) 0 b = xPay m d a k := by
  dsimp only [Rd]; rw [kindOf_xs]
theorem rest_bar : bigSep ((Rd (F := F) m).duties (barC d) 0 \ ∅) (fun b => (Rd (F := F) m).payload (barC d) 0 b)
    = iprop(barPay d false ∗ barPay d true) := by
  rw [Finset.sdiff_empty, duties_bar, bigSep_univ_eq_bigSepL [false, true] (by decide) (by decide), bigSepL_cons_cons, bigSepL_singleton,
    payload_bar, payload_bar]
  rfl
theorem rest_xc : bigSep ((Rd (F := F) m).duties (xc d a k) 0 \ ∅) (fun b => (Rd (F := F) m).payload (xc d a k) 0 b) = xPay m d a k := by
  rw [Finset.sdiff_empty, duties_xc, bigSep_singleton, payload_xc]

end Sched

/-! ## What a device owes, and the levels -/

/-- The copies across y from chunk `n` on; -/
def Oy (d : Dev nD) (n : ℕ) : CellTallies nD τ sig Unit := ∑ k ∈ Finset.Ico n 16, tallyAt (xc (ynbr d) 1 (fk k)) () N
/-- the copies to the partner from chunk `n` on; -/
def Of (d : Dev nD) (n : ℕ) : CellTallies nD τ sig Unit := ∑ k ∈ Finset.Ico n 16, tallyAt (xc (partner d) 3 (fk k)) () N
/-- both. -/
def Ox (d : Dev nD) (a b : ℕ) : CellTallies nD τ sig Unit := Oy d a + Of d b
/-- With the signal to the partner; -/
def O₁ (d : Dev nD) : CellTallies nD τ sig Unit := Ox d 0 0 + tallyAt (barC (partner d)) () 1
/-- with both signals: what a device owes at launch. -/
def O₀ (d : Dev nD) : CellTallies nD τ sig Unit := O₁ d + tallyAt (barC (ynbr d)) () 1

theorem Ico_peel {a b : ℕ} (h : a < b) : Finset.Ico a b = insert a (Finset.Ico (a + 1) b) := by
  ext x; rw [Finset.mem_insert, Finset.mem_Ico, Finset.mem_Ico]; omega
theorem not_mem_Ico_succ (a b : ℕ) : a ∉ Finset.Ico (a + 1) b := fun h => by rw [Finset.mem_Ico] at h; omega

theorem Oy_peel (d : Dev nD) {n : ℕ} (h : n < 16) : Oy d n = Oy d (n + 1) + tallyAt (xc (ynbr d) 1 (fk n)) () N := by
  unfold Oy; rw [Ico_peel h, Finset.sum_insert (not_mem_Ico_succ _ _), add_comm]
theorem Of_peel (d : Dev nD) {n : ℕ} (h : n < 16) : Of d n = Of d (n + 1) + tallyAt (xc (partner d) 3 (fk n)) () N := by
  unfold Of; rw [Ico_peel h, Finset.sum_insert (not_mem_Ico_succ _ _), add_comm]
theorem Ox_end (d : Dev nD) : Ox d 16 16 = 0 := by
  unfold Ox Oy Of; rw [Finset.Ico_self, Finset.sum_empty, Finset.sum_empty, add_zero]

def L (g : GSem nD τ sig) : Finset Unit := if g.1.2 = .tc then {()} else ∅
/-- Barrier cells at 1, chunk `k`'s arrival from across y at `2 + k`, arrivals from the partner at 100, everything else at 0. -/
def lv (g : GSem nD τ sig) (_ : Unit) : ℕ := match g.2 with
  | .reg _ => 1
  | .dma n => match kindOf n with
    | some (1, k) => 2 + k.val
    | some (3, _) => 100
    | _ => 0

theorem L_of_ne (g : GSem nD τ sig) (h : g.1.2 ≠ .tc) : L g = ∅ := if_neg h
theorem L_tc (d : Dev nD) (sm : SemLoc sig) : L ((d : Thread nD τ), sm) = {()} := if_pos rfl
theorem lv_bar (d : Dev nD) : lv (barC d) () = 1 := rfl
theorem lv_ys (d : Dev nD) (k : Fin 16) : lv (xc d 0 k) () = 0 := by dsimp only [lv]; rw [kindOf_xs]; rfl
theorem lv_yr (d : Dev nD) (k : Fin 16) : lv (xc d 1 k) () = 2 + k.val := by dsimp only [lv]; rw [kindOf_xs]; rfl
theorem lv_fs (d : Dev nD) (k : Fin 16) : lv (xc d 2 k) () = 0 := by dsimp only [lv]; rw [kindOf_xs]; rfl
theorem lv_fr (d : Dev nD) (k : Fin 16) : lv (xc d 3 k) () = 100 := by dsimp only [lv]; rw [kindOf_xs]; rfl
theorem lv_none (d : Dev nD) {q : DmaSem sig} (h : kindOf q = none) : lv ((d : Thread nD τ), .dma q) () = 0 := by
  dsimp only [lv]; rw [h]

/-- A sum of tallies that is positive somewhere has a positive one there. -/
theorem sum_pos_at {g : GSem nD τ sig} {u : Unit} {S : Finset ℕ} {f : ℕ → GSem nD τ sig}
    (h : 0 < (∑ k ∈ S, tallyAt (f k) () N : CellTallies nD τ sig Unit) g u) : ∃ k ∈ S, g = f k := by
  rw [Finset.sum_apply, Finsupp.finset_sum_apply] at h
  obtain ⟨k, hk, hp⟩ := Finset.exists_ne_zero_of_sum_ne_zero (Nat.pos_iff_ne_zero.mp h)
  refine ⟨k, hk, ?_⟩
  by_contra hn
  exact hp (by rw [tallyAt_apply, if_neg fun h' => hn h'.1])

theorem Ox_pos {d : Dev nD} {a b : ℕ} {g : GSem nD τ sig} {u : Unit} (h : 0 < Ox d a b g u) :
    (∃ k ∈ Finset.Ico a 16, g = xc (ynbr d) 1 (fk k)) ∨ (∃ k ∈ Finset.Ico b 16, g = xc (partner d) 3 (fk k)) := by
  unfold Ox Oy Of at h
  rw [Pi.add_apply, Finsupp.add_apply] at h
  rcases Nat.add_pos_iff_pos_or_pos.mp h with h | h
  · exact Or.inl (sum_pos_at h)
  · exact Or.inr (sum_pos_at h)

theorem add_pos_at {A : CellTallies nD τ sig Unit} {g₀ g : GSem nD τ sig} {n : ℕ} {u : Unit}
    (h : 0 < (A + tallyAt g₀ () n) g u) : g = g₀ ∨ 0 < A g u := by
  by_contra hn
  rw [not_or] at hn
  rw [Pi.add_apply, Finsupp.add_apply, tallyAt_apply, if_neg (fun h' => hn.1 h'.1)] at h
  exact hn.2 h

theorem O₀_pos {d : Dev nD} {g : GSem nD τ sig} {u : Unit} (h : 0 < O₀ d g u) :
    g = barC (ynbr d) ∨ g = barC (partner d) ∨ 0 < Ox d 0 0 g u :=
  (add_pos_at h).imp id fun h => add_pos_at h

/-- A device may wait at a semaphore below everything it still owes. -/
theorem mayWait_Ox (d : Dev nD) (sm : SemLoc sig) (a b : ℕ)
    (ha : ∀ k, a ≤ k → k < 16 → lv ((d : Thread nD τ), sm) () < 2 + k) (hb : b < 16 → lv ((d : Thread nD τ), sm) () < 100) :
    (levAts L lv : sProp 𝕄) ⊢ MayWait (d : Thread nD τ) sm () (Ox d a b) :=
  MayOwe.of_cut (L := L) (lev := lv) (lv ((d : Thread nD τ), sm) ())
    (fun p hp => by rw [Finset.mem_singleton.mp hp, L_tc]; exact Finset.mem_singleton_self _)
    (fun g u hg => by
      rcases Ox_pos hg with ⟨k, _, h⟩ | ⟨k, _, h⟩ <;> (rw [h, L_tc]; exact Finset.mem_singleton_self _))
    (fun p hp => by rw [Finset.mem_singleton.mp hp])
    (fun g u hg => by
      rcases Ox_pos hg with ⟨k, hk, h⟩ | ⟨k, hk, h⟩ <;> rw [Finset.mem_Ico] at hk
      · rw [h, lv_yr, fk_lt hk.2]; exact ha k hk.1 hk.2
      · rw [h, lv_fr]; exact hb (by omega))

end Cert.KernelIdeal.Ring

end
-- ==== Proof.KernelIdealSteps.lean ====
/-
One rule for every operation of the body: what it takes, what it leaves.

A local copy takes its source, its destination and its semaphore at zero, and leaves the copy in flight; its wait gives
them back, the destination holding the source. A remote copy pays its two duties, and what it owes; the waits on the four
cells collect what the schedule says they hand over.
-/
module

public import proofs.«01_k».proof.Proof.KernelIdealSched
public import Idealize.ShloMosaic.Lib.MemrefSat
public import Idealize.ShloMosaic.Lib.Pipeline.Value

@[expose] public section

noncomputable section

namespace Cert.KernelIdeal.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

local notation "𝕄" => MT nD τ sig Unit (Elt F) ℕ UU ℕ

variable (m : (ℓ : Loc nD τ sig) → Buf (Elt F) ℓ)

/-! ## What every step may use, and what a device still owes -/

/-- All cells' invariants, under the names they were allocated at, and that round 0 of every cell is reached. -/
def records (K : Dev nD × Kd → ℕ) : sProp 𝕄 :=
  iprop((bigSep Finset.univ fun ck : Dev nD × Kd => cellInv ER (Rd m) (K ck) (kcell ck))
    ∗ bigSep Finset.univ fun ck : Dev nD × Kd => reached ER (kcell ck) 0)
instance records_persistent (K : Dev nD × Kd → ℕ) : BI.Persistent (records m K) := by unfold records; infer_instance

theorem inv_at (K : Dev nD × Kd → ℕ) (ck : Dev nD × Kd) : records m K ⊢ (cellInv ER (Rd m) (K ck) (kcell ck) : sProp 𝕄) := by
  unfold records
  exact (BI.sep_and.trans BI.and_elimL).trans (bigSep_elim (Finset.mem_univ ck))
theorem reached_at (K : Dev nD × Kd → ℕ) (ck : Dev nD × Kd) : records m K ⊢ (reached ER (kcell ck) 0 : sProp 𝕄) := by
  unfold records
  exact (BI.sep_and.trans BI.and_elimR).trans (bigSep_elim (Finset.mem_univ ck))

/-- Device `d` owes `O`, whatever waits are recorded. -/
def debt (d : Dev nD) (O : CellTallies nD τ sig Unit) : sProp 𝕄 := iprop(∃ W : Waits sig Unit, owes (d : Thread nD τ) O W)

/-- The program `k` run on device `d`, to `Q`. -/
abbrev wpd (d : Dev nD) (Q : PUnit.{1} → sProp 𝕄) (k : Prog (TpuEff nD τ sig (Elt F) Λ₀ .tc) PUnit) : sProp 𝕄 :=
  wp frame (wpE (defs₀ (F := F)) 𝒱₀ (d : Thread nD τ) none) Set.univ k Q

variable (d : Dev nD) (Q : PUnit.{1} → sProp (MT nD τ sig Unit (Elt F) ℕ UU ℕ)) (k : Prog (TpuEff nD τ sig (Elt F) Λ₀ .tc) PUnit)

theorem owns_hold {sp : Space} {e : EltTy} (M : Memref sig .tc sp S1024x1024 e) (X : S1024x1024.Idx → Elt F e) :
    owns (d : Thread nD τ) M fullShare X ⊢ (hold d M : sProp 𝕄) := by
  unfold owns hold
  iintro ⟨%f, -, H⟩
  iexists f; iexact H

/-! ## Local copies -/

/-- Starting a local copy of a matrix whose source holds `X` at a share. -/
theorem wp_start {sp sp' : Space} {e : EltTy} {src : Memref sig .tc sp S1024x1024 e} {dst : Memref sig .tc sp' S1024x1024 e} {q : DmaSem sig}
    {hsrc : src.view.WordExact} {hdst : dst.view.WordExact} {hsem : DmaTarget.Typed (nD := nD) (τ := τ) (p := .tc) sp (.dma q) (.here dst)}
    {sh : PosShare TreeShare} (fs : Buf (Elt F) (src.view.loc (d : Thread nD τ))) :
    iprop((src.view.loc (d : Thread nD τ) ↦[src.view.set]{sh} fs) ∗ hold d dst ∗ semVal ((d : Thread nD τ), .dma q) 0)
      ⊢ iprop((Flight EC (d : Thread nD τ) (.dma q) () dst.view.dmaCredit
            iprop(owns (d : Thread nD τ) dst fullShare (src.view.read (Elt F) fs) ∗ (src.view.loc (d : Thread nD τ) ↦[src.view.set]{sh} fs))
          -∗ wpd d Q k)
        -∗ wpd d Q (.op (.enqueueDma src (.here dst) (.dma q) hsrc hdst hsem) fun _ => k)) := by
  unfold hold
  iintro ⟨Hs, ⟨%fd, Hd⟩, Hv⟩ Hk
  iapply (wp_dmaLocal EC 𝒱₀ (d : Thread nD τ) none () dst.view.dmaCredit rfl (View.dmaCredit_pos _ (by decide)) (Finset.Subset.refl _)) $$ [Hs Hd Hv]
  · isplitl [Hs]; · iexact Hs
    isplitl [Hd]; · iexact Hd
    iexact Hv
  iintro Hf
  iapply Hk
  iapply (Flight_mono EC (d : Thread nD τ) ?_) $$ Hf
  refine sep_mono_left ?_
  refine (owns_intro (d : Thread nD τ) dst fullShare _).trans (Entails.of_eq ?_)
  rw [View.read_write_univ]

/-- Waiting for it, below what is still owed. -/
theorem wp_await {sp sp' : Space} {e : EltTy} {src : Memref sig .tc sp S1024x1024 e} {dst : Memref sig .tc sp' S1024x1024 e} {q : DmaSem sig}
    {hsrc : src.view.WordExact} {hdst : dst.view.WordExact} {D : sProp 𝕄} (hq : kindOf q = none) (a b : ℕ) :
    iprop(levAts L lv ∗ Flight EC (d : Thread nD τ) (.dma q) () dst.view.dmaCredit D ∗ debt d (Ox d a b))
      ⊢ iprop((iprop(D ∗ semVal ((d : Thread nD τ), .dma q) 0 ∗ debt d (Ox d a b)) -∗ wpd d Q k)
        -∗ wpd d Q (.op (.waitDma2 q src dst hsrc hdst) fun _ => k)) := by
  unfold debt
  iintro ⟨Hlev, Hf, ⟨%W, HO⟩⟩ Hk
  iapply (wp_waitLocalO EC 𝒱₀ (d : Thread nD τ) none () rfl) $$ [Hlev Hf HO]
  · isplitl [Hf]; · iexact Hf
    isplitl [HO]; · iexact HO
    iapply (mayWait_Ox d (.dma q) a b (fun k _ _ => by rw [lv_none d hq]; omega) (fun _ => by rw [lv_none d hq]; omega))
    iexact Hlev
  iintro ⟨HD, Hv, HO⟩
  iapply Hk
  isplitl [HD]; · iexact HD
  isplitl [Hv]; · iexact Hv
  iexists _; iexact HO

/-- A slot of the incoming sent half, free, its semaphore at zero; of the incoming other half; -/
def vfIdle (s : Fin 2) : sProp 𝕄 := iprop(semVal ((d : Thread nD τ), .dma (sem2 cc0_scratch4 s)) 0 ∗ hold d (slot2 vfA s))
def gfIdle (s : Fin 2) : sProp 𝕄 := iprop(semVal ((d : Thread nD τ), .dma (sem2 cc0_scratch6 s)) 0 ∗ hold d (slot2 gfA s))
/-- of the rounded sent half; of the rounded other half. -/
def vbIdle (s : Fin 4) : sProp 𝕄 := iprop(semVal ((d : Thread nD τ), .dma (sem4 cc0_scratch5 s)) 0 ∗ hold d (slot4 vbA s))
def gbIdle (s : Fin 2) : sProp 𝕄 := iprop(semVal ((d : Thread nD τ), .dma (sem2 cc0_scratch7 s)) 0 ∗ hold d (slot2 gbA s))

/-- Chunk `c` of the sent half on its way in; of the other half; -/
def inFl (c : Fin 16) : sProp 𝕄 :=
  Flight EC (d : Thread nD τ) (.dma (inS c)) () (slot2 vfA (m2 c)).view.dmaCredit
    iprop(owns (d : Thread nD τ) (slot2 vfA (m2 c)) fullShare (xt m d (iS d c)) ∗ xOwn m d (iS d c))
def gFl (c : Fin 16) : sProp 𝕄 :=
  Flight EC (d : Thread nD τ) (.dma (inG c)) () (slot2 gfA (m2 c)).view.dmaCredit
    iprop(owns (d : Thread nD τ) (slot2 gfA (m2 c)) fullShare (xt m d (iF d c)) ∗ xOwn m d (iF d c))
/-- the rounded chunk on its way into the result, half its slot's share lent; of the other half. -/
def stFl (c : Fin 16) : sProp 𝕄 :=
  Flight EC (d : Thread nD τ) (.dma (stS c)) () (oSend d c).view.dmaCredit
    iprop(oOwn m d (jS d c) ∗ owns (d : Thread nD τ) (slot4 vbA (m4 c)) fullShare.left (tile m d (jS d c)))
def fillFl (c : Fin 16) : sProp 𝕄 :=
  Flight EC (d : Thread nD τ) (.dma (stG c)) () (oFill d c).view.dmaCredit
    iprop(oOwn m d (jF d c) ∗ owns (d : Thread nD τ) (slot2 gbA (m2 c)) fullShare (tile m d (jF d c)))

theorem wp_inStart (c : Fin 16) :
    iprop(vfIdle d (m2 c) ∗ xOwn m d (iS d c)) ⊢ iprop((inFl m d c -∗ wpd d Q k) -∗ wpd d Q (Op.sem d k (.inStart c))) := by
  unfold vfIdle inFl xOwn xt
  rw [← xSend_eq]
  iintro ⟨⟨Hv, Hd⟩, Hx⟩ Hk
  iapply (wp_start d Q k (src := xSend d c)) $$ [Hv Hd Hx]
  · isplitl [Hx]; · iexact Hx
    isplitl [Hd]; · iexact Hd
    iexact Hv
  iexact Hk

theorem wp_gStart (c : Fin 16) :
    iprop(gfIdle d (m2 c) ∗ xOwn m d (iF d c)) ⊢ iprop((gFl m d c -∗ wpd d Q k) -∗ wpd d Q (Op.sem d k (.gStart c))) := by
  unfold gfIdle gFl xOwn xt
  rw [← xFill_eq]
  iintro ⟨⟨Hv, Hd⟩, Hx⟩ Hk
  iapply (wp_start d Q k (src := xFill d c)) $$ [Hv Hd Hx]
  · isplitl [Hx]; · iexact Hx
    isplitl [Hd]; · iexact Hd
    iexact Hv
  iexact Hk

/-- A copy whose source is known by what it holds. -/
theorem wp_start_owns {sp sp' : Space} {e : EltTy} {src : Memref sig .tc sp S1024x1024 e} {dst : Memref sig .tc sp' S1024x1024 e} {q : DmaSem sig}
    {hsrc : src.view.WordExact} {hdst : dst.view.WordExact} {hsem : DmaTarget.Typed (nD := nD) (τ := τ) (p := .tc) sp (.dma q) (.here dst)}
    {sh : PosShare TreeShare} (X : S1024x1024.Idx → Elt F e) :
    iprop(owns (d : Thread nD τ) src sh X ∗ hold d dst ∗ semVal ((d : Thread nD τ), .dma q) 0)
      ⊢ iprop((Flight EC (d : Thread nD τ) (.dma q) () dst.view.dmaCredit
            iprop(owns (d : Thread nD τ) dst fullShare X ∗ owns (d : Thread nD τ) src sh X)
          -∗ wpd d Q k)
        -∗ wpd d Q (.op (.enqueueDma src (.here dst) (.dma q) hsrc hdst hsem) fun _ => k)) := by
  iintro ⟨Hs, Hr⟩ Hk
  unfold owns
  icases Hs with ⟨%f, %hf, Hs⟩
  subst hf
  iapply (wp_start d Q k (src := src) f) $$ [Hs Hr]
  · isplitl [Hs]; · iexact Hs
    iexact Hr
  iintro Hf
  iapply Hk
  iapply (Flight_mono EC (d : Thread nD τ) (sep_mono_right (owns_intro (d : Thread nD τ) src sh f))) $$ Hf

theorem wp_stStart (c : Fin 16) :
    iprop(semVal ((d : Thread nD τ), .dma (stS c)) 0 ∗ owns (d : Thread nD τ) (slot4 vbA (m4 c)) fullShare.left (tile m d (jS d c)) ∗ hold d (oC (jS d c)))
      ⊢ iprop((stFl m d c -∗ wpd d Q k) -∗ wpd d Q (Op.sem d k (.stStart c))) := by
  unfold stFl oOwn
  rw [← oSend_eq]
  iintro ⟨Hv, Hs, Hd⟩ Hk
  iapply (wp_start_owns d Q k (src := slot4 vbA (m4 c)) (dst := oSend d c) (tile m d (jS d c))) $$ [Hv Hd Hs]
  · isplitl [Hs]; · iexact Hs
    isplitl [Hd]; · iexact Hd
    iexact Hv
  iexact Hk

theorem wp_fillStart (c : Fin 16) :
    iprop(semVal ((d : Thread nD τ), .dma (stG c)) 0 ∗ owns (d : Thread nD τ) (slot2 gbA (m2 c)) fullShare (tile m d (jF d c)) ∗ hold d (oC (jF d c)))
      ⊢ iprop((fillFl m d c -∗ wpd d Q k) -∗ wpd d Q (Op.sem d k (.fillStart c))) := by
  unfold fillFl oOwn
  rw [← oFill_eq]
  iintro ⟨Hv, Hs, Hd⟩ Hk
  iapply (wp_start_owns d Q k (src := slot2 gbA (m2 c)) (dst := oFill d c) (tile m d (jF d c))) $$ [Hv Hd Hs]
  · isplitl [Hs]; · iexact Hs
    isplitl [Hd]; · iexact Hd
    iexact Hv
  iexact Hk

theorem wp_inWait (c : Fin 16) (a b : ℕ) :
    iprop(levAts L lv ∗ inFl m d c ∗ debt d (Ox d a b))
      ⊢ iprop((iprop((owns (d : Thread nD τ) (slot2 vfA (m2 c)) fullShare (xt m d (iS d c)) ∗ xOwn m d (iS d c))
            ∗ semVal ((d : Thread nD τ), .dma (inS c)) 0 ∗ debt d (Ox d a b)) -∗ wpd d Q k)
        -∗ wpd d Q (Op.sem d k (.inWait c))) :=
  wp_await d Q k (kindOf_inS c) a b
theorem wp_gWait (c : Fin 16) (a b : ℕ) :
    iprop(levAts L lv ∗ gFl m d c ∗ debt d (Ox d a b))
      ⊢ iprop((iprop((owns (d : Thread nD τ) (slot2 gfA (m2 c)) fullShare (xt m d (iF d c)) ∗ xOwn m d (iF d c))
            ∗ semVal ((d : Thread nD τ), .dma (inG c)) 0 ∗ debt d (Ox d a b)) -∗ wpd d Q k)
        -∗ wpd d Q (Op.sem d k (.gWait c))) :=
  wp_await d Q k (kindOf_inG c) a b
theorem wp_stWait (c : Fin 16) (a b : ℕ) :
    iprop(levAts L lv ∗ stFl m d c ∗ debt d (Ox d a b))
      ⊢ iprop((iprop((oOwn m d (jS d c) ∗ owns (d : Thread nD τ) (slot4 vbA (m4 c)) fullShare.left (tile m d (jS d c)))
            ∗ semVal ((d : Thread nD τ), .dma (stS c)) 0 ∗ debt d (Ox d a b)) -∗ wpd d Q k)
        -∗ wpd d Q (Op.sem d k (.stWait c))) :=
  wp_await d Q k (kindOf_stS c) a b
theorem wp_fillWait (c : Fin 16) (a b : ℕ) :
    iprop(levAts L lv ∗ fillFl m d c ∗ debt d (Ox d a b))
      ⊢ iprop((iprop((oOwn m d (jF d c) ∗ owns (d : Thread nD τ) (slot2 gbA (m2 c)) fullShare (tile m d (jF d c)))
            ∗ semVal ((d : Thread nD τ), .dma (stG c)) 0 ∗ debt d (Ox d a b)) -∗ wpd d Q k)
        -∗ wpd d Q (Op.sem d k (.fillWait c))) :=
  wp_await d Q k (kindOf_stG c) a b

/-! ## The casts -/

theorem read_vf (s : Fin 2) (f : (cc0_scratch0 : Ref sig .tc).ty.Contents (Elt F)) :
    shapeCast S1024x1024 (vfA.view.readAt (Elt F) (rect2 s).toLoadRect f) shapeCasts_S1x1024x1024_S1024x1024 = (slot2 vfA s).view.read (Elt F) f := rfl
theorem read_gf (s : Fin 2) (f : (cc0_scratch2 : Ref sig .tc).ty.Contents (Elt F)) :
    shapeCast S1024x1024 (gfA.view.readAt (Elt F) (rect2 s).toLoadRect f) shapeCasts_S1x1024x1024_S1024x1024 = (slot2 gfA s).view.read (Elt F) f := rfl
theorem read_vb (s : Fin 4) (f : (cc0_scratch1 : Ref sig .tc).ty.Contents (Elt F)) (v : Vec F S1x1024x1024 .f32) :
    (slot4 vbA s).view.read (Elt F) ((vbA.access (rect4 s)).write (Elt F) f (castV v) Finset.univ)
      = castT (shapeCast S1024x1024 v shapeCasts_S1x1024x1024_S1024x1024) := by
  show shapeCast S1024x1024 ((vbA.access (rect4 s)).read (Elt F) ((vbA.access (rect4 s)).write (Elt F) f (castV v) Finset.univ)) shapeCasts_S1x1024x1024_S1024x1024 = _
  rw [View.read_write_univ]; unfold castV; exact shapeCast_shapeCast _ _ _
theorem read_gb (s : Fin 2) (f : (cc0_scratch3 : Ref sig .tc).ty.Contents (Elt F)) (v : Vec F S1x1024x1024 .f32) :
    (slot2 gbA s).view.read (Elt F) ((gbA.access (rect2 s)).write (Elt F) f (castV v) Finset.univ)
      = castT (shapeCast S1024x1024 v shapeCasts_S1x1024x1024_S1024x1024) := by
  show shapeCast S1024x1024 ((gbA.access (rect2 s)).read (Elt F) ((gbA.access (rect2 s)).write (Elt F) f (castV v) Finset.univ)) shapeCasts_S1x1024x1024_S1024x1024 = _
  rw [View.read_write_univ]; unfold castV; exact shapeCast_shapeCast _ _ _

/-- The elements a slot's matrix names are those of the slot; so for a load's rectangle and a store's. -/
theorem set_slot2 {e : EltTy} (M : Memref sig .tc .vmem S2x1024x1024 e) (s : Fin 2) : (slot2 M s).view.set = (M.access (rect2 s)).set := View.set_reshape _ _
theorem set_slot4 {e : EltTy} (M : Memref sig .tc .vmem S4x1024x1024 e) (s : Fin 4) : (slot4 M s).view.set = (M.access (rect4 s)).set := View.set_reshape _ _

theorem wp_castS (c : Fin 16) (X : Vec F S1024x1024 .f32) :
    iprop(owns (d : Thread nD τ) (slot2 vfA (m2 c)) fullShare X ∗ hold d (slot4 vbA (m4 c)))
      ⊢ iprop((iprop(owns (d : Thread nD τ) (slot2 vfA (m2 c)) fullShare X ∗ owns (d : Thread nD τ) (slot4 vbA (m4 c)) fullShare (castT X)) -∗ wpd d Q k)
        -∗ wpd d Q (Op.sem d k (.castS c))) := by
  unfold owns hold
  iintro ⟨⟨%f, %hf, Hf⟩, ⟨%g, Hg⟩⟩ Hk
  subst hf
  rw [set_slot2, set_slot4]
  iapply (wp_load_rect 𝒱₀ (d : Thread nD τ) none Set.univ (m := vfA) (r := rect2 (m2 c)) (Finset.Subset.refl _)) $$ Hf; iintro Hf
  iapply (wp_load_rect 𝒱₀ (d : Thread nD τ) none Set.univ (m := vbA) (r := rect4 (m4 c)) (Finset.Subset.refl _)) $$ Hg; iintro Hg
  iapply (wp_store 𝒱₀ (d : Thread nD τ) none Set.univ (m := vbA) (r := rect4 (m4 c)) (Mk := Finset.univ) (by rw [View.setOn_univ])) $$ Hg; iintro Hg
  iapply Hk
  isplitl [Hf]
  · iexists f; isplitr; · (ipureintro; rfl)
    iexact Hf
  · iexists _; isplitr; swap; · iexact Hg
    ipureintro; exact read_vb (F := F) _ _ _

theorem wp_castG (c : Fin 16) (X : Vec F S1024x1024 .f32) :
    iprop(owns (d : Thread nD τ) (slot2 gfA (m2 c)) fullShare X ∗ hold d (slot2 gbA (m2 c)))
      ⊢ iprop((iprop(owns (d : Thread nD τ) (slot2 gfA (m2 c)) fullShare X ∗ owns (d : Thread nD τ) (slot2 gbA (m2 c)) fullShare (castT X)) -∗ wpd d Q k)
        -∗ wpd d Q (Op.sem d k (.castG c))) := by
  unfold owns hold
  iintro ⟨⟨%f, %hf, Hf⟩, ⟨%g, Hg⟩⟩ Hk
  subst hf
  rw [set_slot2, set_slot2]
  iapply (wp_load_rect 𝒱₀ (d : Thread nD τ) none Set.univ (m := gfA) (r := rect2 (m2 c)) (Finset.Subset.refl _)) $$ Hf; iintro Hf
  iapply (wp_load_rect 𝒱₀ (d : Thread nD τ) none Set.univ (m := gbA) (r := rect2 (m2 c)) (Finset.Subset.refl _)) $$ Hg; iintro Hg
  iapply (wp_store 𝒱₀ (d : Thread nD τ) none Set.univ (m := gbA) (r := rect2 (m2 c)) (Mk := Finset.univ) (by rw [View.setOn_univ])) $$ Hg; iintro Hg
  iapply Hk
  isplitl [Hf]
  · iexists f; isplitr; · (ipureintro; rfl)
    iexact Hf
  · iexists _; isplitr; swap; · iexact Hg
    ipureintro; exact read_gb (F := F) _ _ _

end Cert.KernelIdeal.Ring

end
-- ==== Proof.KernelIdealRemote.lean ====
/-
The rules of the operations that involve another device: the handshake, the remote copies, the waits on their cells.
-/
module

public import proofs.«01_k».proof.Proof.KernelIdealSteps

@[expose] public section

noncomputable section

namespace Cert.KernelIdeal.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

local notation "𝕄" => MT nD τ sig Unit (Elt F) ℕ UU ℕ

variable (m : (ℓ : Loc nD τ sig) → Buf (Elt F) ℓ)

variable (K : Dev nD × Kd → ℕ)
variable (d : Dev nD) (Q : PUnit.{1} → sProp (MT nD τ sig Unit (Elt F) ℕ UU ℕ)) (k : Prog (TpuEff nD τ sig (Elt F) Λ₀ .tc) PUnit)

/-! ## The handshake -/

/-- What a device gives the one across y: the chunks that one writes; what it gives its partner. -/
def giveY : sProp 𝕄 := bigSep Finset.univ fun c : Fin 16 => hold d (oC (jR d c))
def giveP : sProp 𝕄 := bigSep Finset.univ fun c : Fin 16 => hold d (oC (jW d c))
/-- What it gets from each. -/
def getY : sProp 𝕄 := bigSep Finset.univ fun c : Fin 16 => hold (ynbr d) (oC (jS d c))
def getP : sProp 𝕄 := bigSep Finset.univ fun c : Fin 16 => hold (partner d) (oC (jR d c))

theorem barPay_y : giveY (F := F) d = barPay (ynbr d) false := by
  unfold giveY barPay; rw [if_neg Bool.false_ne_true]
  exact bigSep_congr fun c _ => by rw [ynbr_ynbr, jS_y]
theorem barPay_p : giveP (F := F) d = barPay (partner d) true := by
  unfold giveP barPay; rw [if_pos rfl]
  exact bigSep_congr fun c _ => by rw [partner_partner, jR_p]
theorem barPay_get : iprop(barPay d false ∗ barPay d true) = iprop(getY (F := F) d ∗ getP d) := by
  unfold getY getP barPay; rw [if_neg Bool.false_ne_true, if_pos rfl]

theorem wp_sigY :
    iprop(records m K ∗ debt d (O₀ d) ∗ dutyTok ER (barC (ynbr d)) 0 false ∗ giveY d)
      ⊢ iprop((debt d (O₁ d) -∗ wpd d Q k) -∗ wpd d Q (Op.sem d k .sigY)) := by
  unfold debt
  iintro ⟨#HR, ⟨%W, HO⟩, Ht, Hp⟩ Hk
  iapply (Rounds.wp_signal 𝒱₀ ER (Rd m) (d : Thread nD τ) none (dst := (ynbr d : Thread nD τ)) (κ := K (ynbr d, none))
      (d := false) (by rw [duties_bar]; exact Finset.mem_univ _) ((amount_bar m (ynbr d) false).trans (by decide)) () (O₁ d) rfl)
    $$ [HO Ht Hp]
  · isplitr; · iapply (inv_at m K (ynbr d, none)); iexact HR
    isplitl [HO]; · iexact HO
    isplitl [Ht]; · iexact Ht
    isplitl [Hp]; · rw [payload_bar, ← barPay_y]; iexact Hp
    iapply (reached_at m K (ynbr d, none)); iexact HR
  iintro HO
  iapply Hk
  iexists W; iexact HO

theorem wp_sigP :
    iprop(records m K ∗ debt d (O₁ d) ∗ dutyTok ER (barC (partner d)) 0 true ∗ giveP d)
      ⊢ iprop((debt d (Ox d 0 0) -∗ wpd d Q k) -∗ wpd d Q (Op.sem d k .sigP)) := by
  unfold debt
  iintro ⟨#HR, ⟨%W, HO⟩, Ht, Hp⟩ Hk
  iapply (Rounds.wp_signal 𝒱₀ ER (Rd m) (d : Thread nD τ) none (dst := (partner d : Thread nD τ)) (κ := K (partner d, none))
      (d := true) (by rw [duties_bar]; exact Finset.mem_univ _) ((amount_bar m (partner d) true).trans (by decide)) () (Ox d 0 0) rfl)
    $$ [HO Ht Hp]
  · isplitr; · iapply (inv_at m K (partner d, none)); iexact HR
    isplitl [HO]; · iexact HO
    isplitl [Ht]; · iexact Ht
    isplitl [Hp]; · rw [payload_bar, ← barPay_p]; iexact Hp
    iapply (reached_at m K (partner d, none)); iexact HR
  iintro HO
  iapply Hk
  iexists W; iexact HO

theorem wp_barWait :
    iprop(records m K ∗ levAts L lv ∗ debt d (Ox d 0 0) ∗ cred (tallyAt (barC d) () 2) ∗ atPos ER (barC d) 0 ∅ 0)
      ⊢ iprop((iprop(debt d (Ox d 0 0) ∗ semVal (barC d) 0 ∗ getY d ∗ getP d) -∗ wpd d Q k) -∗ wpd d Q (Op.sem d k .barWait)) := by
  unfold debt
  iintro ⟨#HR, Hlev, ⟨%W, HO⟩, Hc, Hat⟩ Hk
  iapply (Rounds.wp_wait_rest_token 𝒱₀ ER (Rd m) (d : Thread nD τ) none (κ := K (d, none))
      (wpE_semWait_eq 𝒱₀ (d : Thread nD τ) none Set.univ) (Set.mem_univ _) () (O := Ox d 0 0) (W := W) (R := 0) (m := 0) (T := ∅)
      (by rw [expect_bar]; decide)) $$ [Hlev Hc HO Hat]
  · isplitr; · iapply (inv_at m K (d, none)); iexact HR
    isplitl [Hc]; · iexact Hc
    isplitl [HO]; · iexact HO
    isplitl [Hlev]
    · iapply (mayWait_Ox d (.reg barS) 0 0 (fun k _ _ => by rw [lv_bar]; omega) (fun _ => by rw [lv_bar]; omega)); iexact Hlev
    iexact Hat
  iintro ⟨HO, Hat, -, Hpay⟩
  ihave Hp := (Entails.of_eq ((rest_bar m d).trans (barPay_get d))) $$ Hpay
  imod (Rounds.cell_close ER (Rd m) (Set.mem_univ (K (d, none))) (fun h => h) (R := 0 + 1) (duties_later m (barC d))) $$ [Hat] with Hz
  · isplitr; · iapply (inv_at m K (d, none)); iexact HR
    iexact Hat
  iapply Hk
  isplitl [HO]; · iexists _; iexact HO
  isplitl [Hz]; · iexact Hz
  iexact Hp

/-! ## Remote copies -/

/-- A remote copy of a matrix holding `X`: it pays the duty of the cell it counts on here and of the one it counts on there. -/
theorem wp_remote (e n : Dev nD) (hn : n = e) {sp sp' : Space} {src : Memref sig .tc sp S1024x1024 .bf16} {dst : Memref sig .tc sp' S1024x1024 .bf16}
    (a b : Fin 4) (c : Fin 16) {hsc : dst.view.ref.isScScratch = false} {hsrc : src.view.WordExact} {hdst : dst.view.WordExact}
    {hsem : DmaTarget.Typed (p := .tc) sp (.dma (xs b c)) (.remote (Dev.tc n : Thread nD τ) dst (.dma (xs a c)) hsc)}
    (sh : PosShare TreeShare) (X : S1024x1024.Idx → Elt F .bf16) (O : CellTallies nD τ sig Unit) (hN : dst.view.dmaCredit = N)
    (ha : xPay m d a c = owns (d : Thread nD τ) src sh X) (hb : xPay m e b c = owns (e : Thread nD τ) dst fullShare X) :
    iprop(records m K ∗ owns (d : Thread nD τ) src sh X ∗ hold e dst ∗ debt d (O + tallyAt (xc e b c) () N)
        ∗ dutyTok ER (xc d a c) 0 false ∗ dutyTok ER (xc e b c) 0 false)
      ⊢ iprop((iprop(cred (tallyAt (xc d a c) () N) ∗ debt d O) -∗ wpd d Q k)
        -∗ wpd d Q (.op (.enqueueDma src (.remote (Dev.tc n) dst (.dma (xs a c)) hsc) (.dma (xs b c)) hsrc hdst hsem) fun _ => k)) := by
  subst hn
  unfold hold debt
  rw [show (owns (d : Thread nD τ) src sh X : sProp 𝕄) = iprop(∃ f, ⌜src.view.read (Elt F) f = X⌝ ∗ (src.view.loc (d : Thread nD τ) ↦[src.view.set]{sh} f)) from rfl] at ha ⊢
  iintro ⟨#HR, ⟨%f, %hf, Hs⟩, ⟨%fd, Hd⟩, ⟨%W, HO⟩, Ht, Ht'⟩ Hk
  iapply (Rounds.wp_send_pointsTo 𝒱₀ ER (Rd m) (d : Thread nD τ) none (c' := (n : Thread nD τ)) (κ₁ := K (d, some (a, c))) (κ₂ := K (n, some (b, c)))
    (r₁ := 0) (r₂ := 0) (d₁ := false) (d₂ := false) (fs := f) (fd := fd) (q := sh)
    (mem_xc m d a c) (mem_xc m n b c)
    () () N hN (amount_xc m d a c false) (amount_xc m n b c false) O rfl (W := W)
    (by rw [payload_xc, ha]; iintro H; iexists f; isplitr; · (ipureintro; exact hf)
        iexact H)
    (by rw [payload_xc, hb]; refine (owns_intro (n : Thread nD τ) dst fullShare _).trans (Entails.of_eq ?_)
        rw [View.read_write_univ, hf])) $$ [Hs Hd HO Ht Ht']
  · isplitr; · iapply (inv_at m K (d, some (a, c))); iexact HR
    isplitr; · iapply (inv_at m K (n, some (b, c))); iexact HR
    isplitl [Hs]; · iexact Hs
    isplitl [Hd]; · iexact Hd
    isplitl [HO]; · iexact HO
    isplitl [Ht]; · iexact Ht
    isplitr; · iapply (reached_at m K (d, some (a, c))); iexact HR
    isplitl [Ht']; · iexact Ht'
    iapply (reached_at m K (n, some (b, c))); iexact HR
  iintro ⟨Hc, HO⟩
  iapply Hk
  isplitl [Hc]; · iexact Hc
  iexists W; iexact HO

/-- A wait on one of the device's own copy cells: what the schedule hands over, and the cell closed. -/
theorem wp_xWait {sp sp' : Space} {src : Memref sig .tc sp S1024x1024 .bf16} {dst : Memref sig .tc sp' S1024x1024 .bf16}
    (a : Fin 4) (c : Fin 16) {hsrc : src.view.WordExact} {hdst : dst.view.WordExact} (hN : dst.view.dmaCredit = N) (p q : ℕ)
    (ha : ∀ i, p ≤ i → i < 16 → lv (xc d a c) () < 2 + i) (hb : q < 16 → lv (xc d a c) () < 100) :
    iprop(records m K ∗ levAts L lv ∗ cred (tallyAt (xc d a c) () N) ∗ atPos ER (xc d a c) 0 ∅ 0 ∗ debt d (Ox d p q))
      ⊢ iprop((iprop(xPay m d a c ∗ semVal (xc d a c) 0 ∗ debt d (Ox d p q)) -∗ wpd d Q k)
        -∗ wpd d Q (.op (.waitDma2 (xs a c) src dst hsrc hdst) fun _ => k)) := by
  unfold debt
  iintro ⟨#HR, Hlev, Hc, Hat, ⟨%W, HO⟩⟩ Hk
  iapply (Rounds.wp_wait_rest_token 𝒱₀ ER (Rd m) (d : Thread nD τ) none (κ := K (d, some (a, c)))
      (wpE_waitDma2_eq 𝒱₀ (d : Thread nD τ) none Set.univ) (Set.mem_univ _) () (O := Ox d p q) (W := W) (R := 0) (m := 0) (T := ∅)
      ((Nat.zero_add _).trans (hN.trans (expect_xc m d a c).symm))) $$ [Hlev Hc HO Hat]
  · isplitr; · iapply (inv_at m K (d, some (a, c))); iexact HR
    isplitl [Hc]; · rw [hN]; iexact Hc
    isplitl [HO]; · iexact HO
    isplitl [Hlev]
    · iapply (mayWait_Ox d (.dma (xs a c)) p q ha hb); iexact Hlev
    iexact Hat
  iintro ⟨HO, Hat, -, Hpay⟩
  ihave Hp := (Entails.of_eq (rest_xc m d a c)) $$ Hpay
  imod (Rounds.cell_close ER (Rd m) (Set.mem_univ (K (d, some (a, c)))) (fun h => h) (R := 0 + 1) (duties_later m (xc d a c))) $$ [Hat] with Hz
  · isplitr; · iapply (inv_at m K (d, some (a, c))); iexact HR
    iexact Hat
  iapply Hk
  isplitl [Hp]; · iexact Hp
  isplitl [Hz]; · iexact Hz
  iexists _; iexact HO

/-! ## The kernel's remote operations -/

/-- What the copy across y of chunk `c` needs of the cells and of the device across; -/
def yTodo (c : Fin 16) : sProp 𝕄 :=
  iprop(hold (ynbr d) (oC (jS d c)) ∗ dutyTok ER (xc d 0 c) 0 false ∗ dutyTok ER (xc (ynbr d) 1 c) 0 false)
/-- what the copy to the partner needs. -/
def fTodo (c : Fin 16) : sProp 𝕄 :=
  iprop(hold (partner d) (oC (jR d c)) ∗ dutyTok ER (xc d 2 c) 0 false ∗ dutyTok ER (xc (partner d) 3 c) 0 false)
/-- A copy's cell, its round open and its credit in hand. -/
def xFl (a : Fin 4) (c : Fin 16) : sProp 𝕄 := iprop(cred (tallyAt (xc d a c) () N) ∗ atPos ER (xc d a c) 0 ∅ 0)

theorem wp_yStart (n b : ℕ) (hn : n < 16) :
    iprop(records m K ∗ owns (d : Thread nD τ) (slot4 vbA (m4 (fk n))) fullShare.right (tile m d (jS d (fk n))) ∗ yTodo d (fk n) ∗ atPos ER (xc d 0 (fk n)) 0 ∅ 0 ∗ debt d (Ox d n b))
      ⊢ iprop((iprop(xFl d 0 (fk n) ∗ debt d (Ox d (n + 1) b)) -∗ wpd d Q k) -∗ wpd d Q (Op.sem d k (.yStart (fk n)))) := by
  unfold yTodo xFl
  rw [← oSend_eq, show Ox d n b = Ox d (n + 1) b + tallyAt (xc (ynbr d) 1 (fk n)) () N from by unfold Ox; rw [Oy_peel d hn, add_right_comm]]
  iintro ⟨#HR, Hs, ⟨Hd, Ht, Ht'⟩, Hat, HO⟩ Hk
  iapply (wp_remote m K d Q k (ynbr d) (devY d (fk n)) (devY_eq d (fk n)) (src := slot4 vbA (m4 (fk n))) (dst := oSend d (fk n)) 0 1 (fk n) fullShare.right (tile m d (jS d (fk n)))
    (Ox d (n + 1) b) rfl rfl (by
      show oOwn m (ynbr d) (jR (ynbr d) (fk n)) = _
      unfold oOwn; rw [tile_y, jR_y, oSend_eq])) $$ [Hs Hd Ht Ht' HO]
  · isplitr; · iexact HR
    isplitl [Hs]; · iexact Hs
    isplitl [Hd]; · iexact Hd
    isplitl [HO]; · iexact HO
    isplitl [Ht]; · iexact Ht
    iexact Ht'
  iintro ⟨Hc, HO⟩
  iapply Hk
  isplitl [Hc Hat]
  · isplitl [Hc]; · iexact Hc
    iexact Hat
  iexact HO

theorem wp_fwStart (n a : ℕ) (hn : n < 16) :
    iprop(records m K ∗ oOwn m d (jR d (fk n)) ∗ fTodo d (fk n) ∗ atPos ER (xc d 2 (fk n)) 0 ∅ 0 ∗ debt d (Ox d a n))
      ⊢ iprop((iprop(xFl d 2 (fk n) ∗ debt d (Ox d a (n + 1))) -∗ wpd d Q k) -∗ wpd d Q (Op.sem d k (.fwStart (fk n)))) := by
  unfold fTodo xFl
  rw [show oOwn m d (jR d (fk n)) = owns (d : Thread nD τ) (oRecv d (fk n)) fullShare (tile m d (jR d (fk n))) from by unfold oOwn; rw [oRecv_eq],
    ← oRecv_eq, show Ox d a n = Ox d a (n + 1) + tallyAt (xc (partner d) 3 (fk n)) () N from by unfold Ox; rw [Of_peel d hn, add_assoc]]
  iintro ⟨#HR, Hs, ⟨Hd, Ht, Ht'⟩, Hat, HO⟩ Hk
  iapply (wp_remote m K d Q k (partner d) (devP d (fk n)) (devP_eq d (fk n)) (src := oRecv d (fk n)) (dst := oRecv d (fk n)) 2 3 (fk n) fullShare (tile m d (jR d (fk n)))
    (Ox d a (n + 1)) rfl (by
      show oOwn m d (jR d (fk n)) = _
      unfold oOwn; rw [oRecv_eq]) (by
      show oOwn m (partner d) (jW (partner d) (fk n)) = _
      unfold oOwn; rw [tile_p, jW_p, oRecv_eq])) $$ [Hs Hd Ht Ht' HO]
  · isplitr; · iexact HR
    isplitl [Hs]; · iexact Hs
    isplitl [Hd]; · iexact Hd
    isplitl [HO]; · iexact HO
    isplitl [Ht]; · iexact Ht
    iexact Ht'
  iintro ⟨Hc, HO⟩
  iapply Hk
  isplitl [Hc Hat]
  · isplitl [Hc]; · iexact Hc
    iexact Hat
  iexact HO

theorem wp_ysWait (c : Fin 16) (p q : ℕ) :
    iprop(records m K ∗ levAts L lv ∗ xFl d 0 c ∗ debt d (Ox d p q))
      ⊢ iprop((iprop(owns (d : Thread nD τ) (slot4 vbA (m4 c)) fullShare.right (tile m d (jS d c)) ∗ semVal (xc d 0 c) 0 ∗ debt d (Ox d p q)) -∗ wpd d Q k)
        -∗ wpd d Q (Op.sem d k (.ysWait c))) := by
  unfold xFl
  iintro ⟨#HR, Hl, ⟨Hc, Hat⟩, HO⟩ Hk
  iapply (wp_xWait m K d Q k (src := oSend d c) (dst := slot4 vbA (m4 c)) 0 c (hsrc := exact_oSend d c) (hdst := exact_vb _) (credit_vb _) p q (fun i _ _ => by rw [lv_ys]; omega) (fun _ => by rw [lv_ys]; omega)) $$ [Hl Hc Hat HO]
  · isplitr; · iexact HR
    isplitl [Hl]; · iexact Hl
    isplitl [Hc]; · iexact Hc
    isplitl [Hat]; · iexact Hat
    iexact HO
  iexact Hk

/-- The wait for chunk `n` from across y: what is owed by then is for later chunks, or for the partner. -/
theorem wp_yrWait (n b : ℕ) (hn : n < 16) :
    iprop(records m K ∗ levAts L lv ∗ xFl d 1 (fk n) ∗ debt d (Ox d (n + 1) b))
      ⊢ iprop((iprop(oOwn m d (jR d (fk n)) ∗ semVal (xc d 1 (fk n)) 0 ∗ debt d (Ox d (n + 1) b)) -∗ wpd d Q k)
        -∗ wpd d Q (Op.sem d k (.yrWait (fk n)))) := by
  unfold xFl
  iintro ⟨#HR, Hl, ⟨Hc, Hat⟩, HO⟩ Hk
  iapply (wp_xWait m K d Q k (src := oRecv d (fk n)) (dst := oRecv d (fk n)) 1 (fk n) (hsrc := exact_oRecv d (fk n)) (hdst := exact_oRecv d (fk n)) rfl (n + 1) b (fun i h _ => by rw [lv_yr, fk_lt hn]; omega) (fun _ => by rw [lv_yr, fk_lt hn]; omega)) $$ [Hl Hc Hat HO]
  · isplitr; · iexact HR
    isplitl [Hl]; · iexact Hl
    isplitl [Hc]; · iexact Hc
    isplitl [Hat]; · iexact Hat
    iexact HO
  iexact Hk

/-- The last waits, when nothing is owed. -/
theorem wp_fsWait (c : Fin 16) :
    iprop(records m K ∗ levAts L lv ∗ xFl d 2 c ∗ debt d (Ox d 16 16))
      ⊢ iprop((iprop(oOwn m d (jR d c) ∗ semVal (xc d 2 c) 0 ∗ debt d (Ox d 16 16)) -∗ wpd d Q k)
        -∗ wpd d Q (Op.sem d k (.fsWait c))) := by
  unfold xFl
  iintro ⟨#HR, Hl, ⟨Hc, Hat⟩, HO⟩ Hk
  iapply (wp_xWait m K d Q k (src := oRecv d c) (dst := oRecv d c) 2 c (hsrc := exact_oRecv d c) (hdst := exact_oRecv d c) rfl 16 16 (fun i h h' => by omega) (fun h => by omega)) $$ [Hl Hc Hat HO]
  · isplitr; · iexact HR
    isplitl [Hl]; · iexact Hl
    isplitl [Hc]; · iexact Hc
    isplitl [Hat]; · iexact Hat
    iexact HO
  iexact Hk
theorem wp_frWait (c : Fin 16) :
    iprop(records m K ∗ levAts L lv ∗ xFl d 3 c ∗ debt d (Ox d 16 16))
      ⊢ iprop((iprop(oOwn m d (jW d c) ∗ semVal (xc d 3 c) 0 ∗ debt d (Ox d 16 16)) -∗ wpd d Q k)
        -∗ wpd d Q (Op.sem d k (.frWait c))) := by
  unfold xFl
  iintro ⟨#HR, Hl, ⟨Hc, Hat⟩, HO⟩ Hk
  iapply (wp_xWait m K d Q k (src := oFwd d c) (dst := oFwd d c) 3 c (hsrc := exact_oFwd d c) (hdst := exact_oFwd d c) rfl 16 16 (fun i h h' => by omega) (fun h => by omega)) $$ [Hl Hc Hat HO]
  · isplitr; · iexact HR
    isplitl [Hl]; · iexact Hl
    isplitl [Hc]; · iexact Hc
    isplitl [Hat]; · iexact Hat
    iexact HO
  iexact Hk

end Cert.KernelIdeal.Ring

end
-- ==== Proof.KernelIdealChunk.lean ====
/-
The body, chunk after chunk: which chunks of each kind of copy are done, in flight and to do, and how a chunk's operations move
them on.
-/
module

public import proofs.«01_k».proof.Proof.KernelIdealRemote

@[expose] public section

noncomputable section

namespace Cert.KernelIdeal.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

local notation "𝕄" => MT nD τ sig Unit (Elt F) ℕ UU ℕ

variable (m : (ℓ : Loc nD τ sig) → Buf (Elt F) ℓ)

variable (K : Dev nD × Kd → ℕ)
variable (d : Dev nD) (Q : PUnit.{1} → sProp (MT nD τ sig Unit (Elt F) ℕ UU ℕ)) (k : Prog (TpuEff nD τ sig (Elt F) Λ₀ .tc) PUnit)

/-! ## Sixteen chunks at three stages -/

/-- The chunks below `a` are done, those from `a` to `b` in flight, the others to do. -/
def strip (T Fl D : Fin 16 → sProp 𝕄) (a b : ℕ) : sProp 𝕄 :=
  bigSep Finset.univ fun c : Fin 16 => if c.val < a then D c else if c.val < b then Fl c else T c

section Strip
variable {T Fl D : Fin 16 → sProp (MT nD τ sig Unit (Elt F) ℕ UU ℕ)}

theorem ne_fk {n : ℕ} (hn : n < 16) {c : Fin 16} (hc : c ∈ Finset.univ.erase (fk n)) : c.val ≠ n :=
  fun h => (Finset.mem_erase.mp hc).1 (Fin.ext (h.trans (fk_lt hn).symm))

theorem strip_start {a b : ℕ} (hab : a ≤ b) (hb : b < 16) :
    strip T Fl D a b ⊢ iprop(T (fk b) ∗ (Fl (fk b) -∗ strip T Fl D a (b + 1))) := by
  unfold strip
  rw [bigSep_univ_at _ (fk b), bigSep_univ_at (fun c : Fin 16 => if c.val < a then D c else if c.val < b + 1 then Fl c else T c) (fk b), fk_lt hb,
    if_neg (by omega), if_neg (by omega), if_neg (by omega), if_pos (by omega),
    bigSep_congr (Ψ := fun c : Fin 16 => if c.val < a then D c else if c.val < b + 1 then Fl c else T c) fun c hc => by
      have := ne_fk hb hc
      by_cases h : c.val < a
      · rw [if_pos h, if_pos h]
      by_cases h' : c.val < b
      · rw [if_neg h, if_neg h, if_pos h', if_pos (by omega)]
      · rw [if_neg h, if_neg h, if_neg h', if_neg (by omega)]]
  iintro ⟨HT, HR⟩
  isplitl [HT]; · iexact HT
  iintro HF
  isplitl [HF]; · iexact HF
  iexact HR

theorem strip_finish {a b : ℕ} (hab : a < b) (hb : b ≤ 16) :
    strip T Fl D a b ⊢ iprop(Fl (fk a) ∗ (D (fk a) -∗ strip T Fl D (a + 1) b)) := by
  unfold strip
  rw [bigSep_univ_at _ (fk a), bigSep_univ_at (fun c : Fin 16 => if c.val < a + 1 then D c else if c.val < b then Fl c else T c) (fk a), fk_lt (by omega),
    if_neg (by omega), if_pos hab, if_pos (by omega),
    bigSep_congr (Ψ := fun c : Fin 16 => if c.val < a + 1 then D c else if c.val < b then Fl c else T c) fun c hc => by
      have := ne_fk (by omega : a < 16) hc
      by_cases h : c.val < a
      · rw [if_pos h, if_pos (by omega)]
      · rw [if_neg h, if_neg (show ¬c.val < a + 1 by omega)]]
  iintro ⟨HT, HR⟩
  isplitl [HT]; · iexact HT
  iintro HF
  isplitl [HF]; · iexact HF
  iexact HR

theorem strip_todo : strip T Fl D 0 0 = bigSep Finset.univ T := by
  unfold strip; exact bigSep_congr fun c _ => by rw [if_neg (by omega), if_neg (by omega)]
theorem strip_done (b : ℕ) : strip T Fl D 16 b = bigSep Finset.univ D := by
  unfold strip; exact bigSep_congr fun c _ => by rw [if_pos c.isLt]

end Strip

/-- `P` when `p`. -/
def opt (p : Prop) [Decidable p] (P : sProp 𝕄) : sProp 𝕄 := if p then P else iprop(emp)
theorem opt_pos {p : Prop} [Decidable p] (h : p) (P : sProp 𝕄) : opt p P = P := if_pos h
theorem opt_neg {p : Prop} [Decidable p] (h : ¬p) (P : sProp 𝕄) : opt p P = iprop(emp) := if_neg h
theorem opt_join {p q : Prop} [Decidable p] [Decidable q] (h : p ∨ q) (h' : ¬(p ∧ q)) (P : sProp 𝕄) : iprop(opt p P ∗ opt q P) ⊢ P := by
  by_cases hp : p
  · rw [opt_pos hp, opt_neg (fun hq => h' ⟨hp, hq⟩)]; iintro ⟨H, -⟩; iexact H
  · rw [opt_neg hp, opt_pos (h.resolve_left hp)]; iintro ⟨-, H⟩; iexact H
theorem opt_deal {p q : Prop} [Decidable p] [Decidable q] (h : ¬(p ∧ q)) (P : sProp 𝕄) : P ⊢ iprop(opt p P ∗ opt q P) := by
  by_cases hp : p
  · rw [opt_pos hp, opt_neg (fun hq => h ⟨hp, hq⟩)]; iintro H; isplitl; · iexact H
    iempintro
  · rw [opt_neg hp]; iintro H; isplitr; · iempintro
    by_cases hq : q
    · rw [opt_pos hq]; iexact H
    · rw [opt_neg hq]; iclear H; iempintro

/-! ## The stages of the five kinds of copies

A chunk that needs a slot no chunk has used takes it from the stage to do; the last chunks leave their slots in the stage done. -/

def inT (c : Fin 16) : sProp 𝕄 := iprop(xOwn m d (iS d c) ∗ opt (c.val < 2) (vfIdle d (m2 c)))
def inD (c : Fin 16) : sProp 𝕄 := iprop(xOwn m d (iS d c) ∗ opt (14 ≤ c.val) (vfIdle d (m2 c)))
abbrev inStrip := strip (inT m d) (inFl m d) (inD m d)
def gT (c : Fin 16) : sProp 𝕄 := iprop(xOwn m d (iF d c) ∗ opt (c.val < 2) (gfIdle d (m2 c)))
def gD (c : Fin 16) : sProp 𝕄 := iprop(xOwn m d (iF d c) ∗ opt (14 ≤ c.val) (gfIdle d (m2 c)))
abbrev gStrip := strip (gT m d) (gFl m d) (gD m d)
def vbT (c : Fin 16) : sProp 𝕄 := iprop(hold d (oC (jS d c)) ∗ yTodo d c ∗ atPos ER (xc d 0 c) 0 ∅ 0 ∗ opt (c.val < 4) (vbIdle d (m4 c)))
def vbF (c : Fin 16) : sProp 𝕄 := iprop(stFl m d c ∗ xFl d 0 c)
def vbD (c : Fin 16) : sProp 𝕄 := iprop(oOwn m d (jS d c) ∗ semVal (xc d 0 c) 0 ∗ opt (12 ≤ c.val) (vbIdle d (m4 c)))
abbrev vbStrip := strip (vbT d) (vbF m d) (vbD m d)
def gbT (c : Fin 16) : sProp 𝕄 := iprop(hold d (oC (jF d c)) ∗ opt (c.val < 2) (gbIdle d (m2 c)))
def gbD (c : Fin 16) : sProp 𝕄 := iprop(oOwn m d (jF d c) ∗ opt (14 ≤ c.val) (gbIdle d (m2 c)))
abbrev gbStrip := strip (gbT d) (fillFl m d) (gbD m d)
def fwT (c : Fin 16) : sProp 𝕄 := iprop(xFl d 1 c ∗ fTodo d c ∗ atPos ER (xc d 2 c) 0 ∅ 0)
def fwF (c : Fin 16) : sProp 𝕄 := iprop(semVal (xc d 1 c) 0 ∗ xFl d 2 c)
def fwD (c : Fin 16) : sProp 𝕄 := iprop(semVal (xc d 1 c) 0 ∗ oOwn m d (jR d c) ∗ semVal (xc d 2 c) 0)
abbrev fwStrip := strip (fwT d) (fwF d) (fwD m d)
def frD (c : Fin 16) : sProp 𝕄 := iprop(oOwn m d (jW d c) ∗ semVal (xc d 3 c) 0)
abbrev frStrip (a : ℕ) := strip (fun _ => iprop(emp)) (xFl (F := F) d 3) (frD m d) a 16

theorem m2_next (n : ℕ) : m2 (fk (n + 2)) = m2 (fk n) := by
  apply Fin.ext; show (n + 2) % 16 % 2 = n % 16 % 2; omega
theorem m4_back {n : ℕ} (h : 4 ≤ n) : m4 (fk (n - 4)) = m4 (fk n) := by
  apply Fin.ext; show (n - 4) % 16 % 4 = n % 16 % 4; omega
theorem m2_back {n : ℕ} (h : 2 ≤ n) : m2 (fk (n - 2)) = m2 (fk n) := by
  apply Fin.ext; show (n - 2) % 16 % 2 = n % 16 % 2; omega

/-! ## Loading ahead -/

theorem wp_inGo (n a : ℕ) (ha : a ≤ n) (hn : n < 16) :
    iprop(inStrip m d a n ∗ opt (2 ≤ n) (vfIdle d (m2 (fk n))))
      ⊢ iprop((inStrip m d a (n + 1) -∗ wpd d Q k) -∗ wpd d Q (Op.sem d k (.inStart (fk n)))) := by
  iintro ⟨HS, Hi⟩ Hk
  ihave H := (strip_start ha hn) $$ HS
  icases H with ⟨HT, HS⟩
  unfold inT
  icases HT with ⟨Hx, Hi'⟩
  iapply (wp_inStart m d Q k (fk n)) $$ [Hx Hi Hi']
  · isplitl [Hi Hi']
    · rw [fk_lt hn]
      iapply (opt_join (p := 2 ≤ n) (q := n < 2) (by omega) (by omega)) $$ [Hi Hi']
      isplitl [Hi]; · iexact Hi
      iexact Hi'
    iexact Hx
  iintro Hf
  iapply Hk
  iapply HS; iexact Hf

/-- Chunk `n`'s slot free again: the load of chunk `n + 2` starts, if there is one. -/
theorem wp_inNext (n : ℕ) (hn : n < 16) :
    iprop(vfIdle d (m2 (fk n)) ∗ xOwn m d (iS d (fk n)) ∗ (inD m d (fk n) -∗ inStrip m d (n + 1) (min (n + 2) 16)))
      ⊢ iprop((inStrip m d (n + 1) (min (n + 3) 16) -∗ wpd d Q k)
        -∗ wpd d Q (run d k (if n + 2 < 16 then [.inStart (fk (n + 2))] else []))) := by
  iintro ⟨Hi, Hx, HS⟩ Hk
  ihave Hi2 := (opt_deal (p := 14 ≤ n) (q := n + 2 < 16) (by omega) (vfIdle d (m2 (fk n)))) $$ Hi
  icases Hi2 with ⟨Hi, Hi'⟩
  ihave HS := HS $$ [Hi Hx]
  · unfold inD; rw [fk_lt hn]
    isplitl [Hx]; · iexact Hx
    iexact Hi
  by_cases h : n + 2 < 16
  · rw [if_pos h, show min (n + 2) 16 = n + 2 from by omega, show min (n + 3) 16 = n + 3 from by omega]
    ihave Hi' := (Entails.of_eq (opt_pos h (vfIdle d (m2 (fk n))))) $$ Hi'
    have H := wp_inGo m d Q k (n + 2) (n + 1) (by omega) h
    rw [opt_pos (by omega), m2_next] at H
    iapply H $$ [HS Hi']
    · isplitl [HS]; · iexact HS
      iexact Hi'
    iexact Hk
  · rw [if_neg h, Nat.min_eq_right (by omega), Nat.min_eq_right (by omega)]
    iclear Hi'
    iapply Hk; iexact HS

theorem wp_gGo (n a : ℕ) (ha : a ≤ n) (hn : n < 16) :
    iprop(gStrip m d a n ∗ opt (2 ≤ n) (gfIdle d (m2 (fk n))))
      ⊢ iprop((gStrip m d a (n + 1) -∗ wpd d Q k) -∗ wpd d Q (Op.sem d k (.gStart (fk n)))) := by
  iintro ⟨HS, Hi⟩ Hk
  ihave H := (strip_start ha hn) $$ HS
  icases H with ⟨HT, HS⟩
  unfold gT
  icases HT with ⟨Hx, Hi'⟩
  iapply (wp_gStart m d Q k (fk n)) $$ [Hx Hi Hi']
  · isplitl [Hi Hi']
    · rw [fk_lt hn]
      iapply (opt_join (p := 2 ≤ n) (q := n < 2) (by omega) (by omega)) $$ [Hi Hi']
      isplitl [Hi]; · iexact Hi
      iexact Hi'
    iexact Hx
  iintro Hf
  iapply Hk
  iapply HS; iexact Hf

/-- The same of the other half. -/
theorem wp_gNext (n : ℕ) (hn : n < 16) :
    iprop(gfIdle d (m2 (fk n)) ∗ xOwn m d (iF d (fk n)) ∗ (gD m d (fk n) -∗ gStrip m d (n + 1) (min (n + 2) 16)))
      ⊢ iprop((gStrip m d (n + 1) (min (n + 3) 16) -∗ wpd d Q k)
        -∗ wpd d Q (run d k (if n + 2 < 16 then [.gStart (fk (n + 2))] else []))) := by
  iintro ⟨Hi, Hx, HS⟩ Hk
  ihave Hi2 := (opt_deal (p := 14 ≤ n) (q := n + 2 < 16) (by omega) (gfIdle d (m2 (fk n)))) $$ Hi
  icases Hi2 with ⟨Hi, Hi'⟩
  ihave HS := HS $$ [Hi Hx]
  · unfold gD; rw [fk_lt hn]
    isplitl [Hx]; · iexact Hx
    iexact Hi
  by_cases h : n + 2 < 16
  · rw [if_pos h, show min (n + 2) 16 = n + 2 from by omega, show min (n + 3) 16 = n + 3 from by omega]
    ihave Hi' := (Entails.of_eq (opt_pos h (gfIdle d (m2 (fk n))))) $$ Hi'
    have H := wp_gGo m d Q k (n + 2) (n + 1) (by omega) h
    rw [opt_pos (by omega), m2_next] at H
    iapply H $$ [HS Hi']
    · isplitl [HS]; · iexact HS
      iexact Hi'
    iexact Hk
  · rw [if_neg h, Nat.min_eq_right (by omega), Nat.min_eq_right (by omega)]
    iclear Hi'
    iapply Hk; iexact HS

/-! ## Slots of rounded chunks freed -/

/-- Both copies out of chunk `n`'s slot waited for. -/
theorem wp_vbRetire (n b p q : ℕ) (hn : n < b) (hb : b ≤ 16) :
    iprop(records m K ∗ levAts L lv ∗ vbStrip m d n b ∗ debt d (Ox d p q))
      ⊢ iprop((iprop(vbStrip m d (n + 1) b ∗ opt (n < 12) (vbIdle d (m4 (fk n))) ∗ debt d (Ox d p q)) -∗ wpd d Q k)
        -∗ wpd d Q (Op.sem d (Op.sem d k (.stWait (fk n))) (.ysWait (fk n)))) := by
  iintro ⟨#HR, #Hl, HS, HO⟩ Hk
  ihave H := (strip_finish hn hb) $$ HS
  icases H with ⟨HF, HS⟩
  unfold vbF
  icases HF with ⟨Hst, Hx⟩
  iapply (wp_ysWait m K d Q _ (fk n) p q) $$ [Hx HO]
  · isplitr; · iexact HR
    isplitr; · iexact Hl
    isplitl [Hx]; · iexact Hx
    iexact HO
  iintro ⟨Hr, Hv, HO⟩
  iapply (wp_stWait m d Q k (fk n) p q) $$ [Hst HO]
  · isplitr; · iexact Hl
    isplitl [Hst]; · iexact Hst
    iexact HO
  iintro ⟨⟨Ho, Hl'⟩, Hv', HO⟩
  ihave Hi := (opt_deal (p := n < 12) (q := 12 ≤ n) (by omega) (vbIdle d (m4 (fk n)))) $$ [Hv' Hl' Hr]
  · unfold vbIdle
    isplitl [Hv']; · iexact Hv'
    iapply (owns_hold d (slot4 vbA (m4 (fk n))) (tile m d (jS d (fk n))))
    iapply (owns_halves (d : Thread nD τ) (slot4 vbA (m4 (fk n))) fullShare (tile m d (jS d (fk n)))).2
    isplitl [Hl']; · iexact Hl'
    iexact Hr
  icases Hi with ⟨Hi, Hi'⟩
  iapply Hk
  isplitl [HS Ho Hv Hi']
  · iapply HS
    unfold vbD; rw [fk_lt (by omega)]
    isplitl [Ho]; · iexact Ho
    isplitl [Hv]; · iexact Hv
    iexact Hi'
  isplitl [Hi]; · iexact Hi
  iexact HO

/-- Before chunk `n` is rounded: a slot that was used is freed. -/
theorem wp_vbGet (n p q : ℕ) (hn : n < 16) :
    iprop(records m K ∗ levAts L lv ∗ vbStrip m d (n - 4) n ∗ debt d (Ox d p q))
      ⊢ iprop((iprop(vbStrip m d (n + 1 - 4) n ∗ opt (4 ≤ n) (vbIdle d (m4 (fk n))) ∗ debt d (Ox d p q)) -∗ wpd d Q k)
        -∗ wpd d Q (run d k (if 4 ≤ n then [.ysWait (fk (n - 4)), .stWait (fk (n - 4))] else []))) := by
  iintro ⟨#HR, #Hl, HS, HO⟩ Hk
  by_cases h : 4 ≤ n
  · rw [if_pos h]
    have H := wp_vbRetire m K d Q k (n - 4) n p q (by omega) (by omega)
    rw [show n - 4 + 1 = n + 1 - 4 from by omega, opt_pos (by omega), m4_back h] at H
    iapply H $$ [HS HO]
    · isplitr; · iexact HR
      isplitr; · iexact Hl
      isplitl [HS]; · iexact HS
      iexact HO
    iintro ⟨HS, Hi, HO⟩
    iapply Hk
    rw [opt_pos h]
    isplitl [HS]; · iexact HS
    isplitl [Hi]; · iexact Hi
    iexact HO
  · rw [if_neg h, show n - 4 = n + 1 - 4 from by omega]
    iapply Hk
    isplitl [HS]; · iexact HS
    isplitr; · rw [opt_neg h]; iempintro
    iexact HO

theorem wp_gbRetire (n b p q : ℕ) (hn : n < b) (hb : b ≤ 16) :
    iprop(levAts L lv ∗ gbStrip m d n b ∗ debt d (Ox d p q))
      ⊢ iprop((iprop(gbStrip m d (n + 1) b ∗ opt (n < 14) (gbIdle d (m2 (fk n))) ∗ debt d (Ox d p q)) -∗ wpd d Q k)
        -∗ wpd d Q (Op.sem d k (.fillWait (fk n)))) := by
  iintro ⟨#Hl, HS, HO⟩ Hk
  ihave H := (strip_finish hn hb) $$ HS
  icases H with ⟨HF, HS⟩
  iapply (wp_fillWait m d Q k (fk n) p q) $$ [HF HO]
  · isplitr; · iexact Hl
    isplitl [HF]; · iexact HF
    iexact HO
  iintro ⟨⟨Ho, Hl'⟩, Hv', HO⟩
  ihave Hi := (opt_deal (p := n < 14) (q := 14 ≤ n) (by omega) (gbIdle d (m2 (fk n)))) $$ [Hv' Hl']
  · unfold gbIdle
    isplitl [Hv']; · iexact Hv'
    iapply (owns_hold d (slot2 gbA (m2 (fk n))) (tile m d (jF d (fk n)))); iexact Hl'
  icases Hi with ⟨Hi, Hi'⟩
  iapply Hk
  isplitl [HS Ho Hi']
  · iapply HS
    unfold gbD; rw [fk_lt (by omega)]
    isplitl [Ho]; · iexact Ho
    iexact Hi'
  isplitl [Hi]; · iexact Hi
  iexact HO

theorem wp_gbGet (n p q : ℕ) (hn : n < 16) :
    iprop(levAts L lv ∗ gbStrip m d (n - 2) n ∗ debt d (Ox d p q))
      ⊢ iprop((iprop(gbStrip m d (n + 1 - 2) n ∗ opt (2 ≤ n) (gbIdle d (m2 (fk n))) ∗ debt d (Ox d p q)) -∗ wpd d Q k)
        -∗ wpd d Q (run d k (if 2 ≤ n then [.fillWait (fk (n - 2))] else []))) := by
  iintro ⟨#Hl, HS, HO⟩ Hk
  by_cases h : 2 ≤ n
  · rw [if_pos h]
    have H := wp_gbRetire m d Q k (n - 2) n p q (by omega) (by omega)
    rw [show n - 2 + 1 = n + 1 - 2 from by omega, opt_pos (by omega), m2_back h] at H
    iapply H $$ [HS HO]
    · isplitr; · iexact Hl
      isplitl [HS]; · iexact HS
      iexact HO
    iintro ⟨HS, Hi, HO⟩
    iapply Hk
    rw [opt_pos h]
    isplitl [HS]; · iexact HS
    isplitl [Hi]; · iexact Hi
    iexact HO
  · rw [if_neg h, show n - 2 = n + 1 - 2 from by omega]
    iapply Hk
    isplitl [HS]; · iexact HS
    isplitr; · rw [opt_neg h]; iempintro
    iexact HO

/-! ## One chunk -/

/-- Chunk `n`'s operations, the chunks named by numbers. -/
def chunkOps (n : ℕ) : List Op :=
  .inWait (fk n) :: ((if 4 ≤ n then [.ysWait (fk (n - 4)), .stWait (fk (n - 4))] else [])
    ++ .castS (fk n) :: ((if n + 2 < 16 then [.inStart (fk (n + 2))] else [])
    ++ .stStart (fk n) :: .yStart (fk n) :: .gWait (fk n) :: ((if 2 ≤ n then [.fillWait (fk (n - 2))] else [])
    ++ .castG (fk n) :: ((if n + 2 < 16 then [.gStart (fk (n + 2))] else [])
    ++ [.fillStart (fk n), .yrWait (fk n), .fwStart (fk n)]))))

theorem chunks_eq : (List.finRange 16).flatMap opsChunk = (List.range 16).flatMap chunkOps := by rfl

/-- What a device holds before chunk `n`. -/
def St (n : ℕ) : sProp 𝕄 :=
  iprop(inStrip m d n (min (n + 2) 16) ∗ gStrip m d n (min (n + 2) 16) ∗ vbStrip m d (n - 4) n ∗ gbStrip m d (n - 2) n ∗ fwStrip m d 0 n
    ∗ debt d (Ox d n n))

theorem wp_chunk (n : ℕ) (hn : n < 16) :
    iprop(records m K ∗ levAts L lv ∗ St m d n)
      ⊢ iprop((St m d (n + 1) -∗ wpd d Q k) -∗ wpd d Q (run d k (chunkOps n))) := by
  unfold St chunkOps
  simp only [run, run_append]
  iintro ⟨#HR, #Hl, HI, HG, HV, HB, HW, HO⟩ Hk
  -- the sent half arrives
  ihave H := (strip_finish (by omega : n < min (n + 2) 16) (by omega)) $$ HI
  icases H with ⟨HF, HI⟩
  iapply (wp_inWait m d Q _ (fk n) n n) $$ [HF HO]
  · isplitr; · iexact Hl
    isplitl [HF]; · iexact HF
    iexact HO
  iintro ⟨⟨Hvf, Hx⟩, Hvs, HO⟩
  -- a slot for it
  iapply (wp_vbGet m K d Q _ n n n hn) $$ [HV HO]
  · isplitr; · iexact HR
    isplitr; · iexact Hl
    isplitl [HV]; · iexact HV
    iexact HO
  iintro ⟨HV, Hi, HO⟩
  ihave H := (strip_start (by omega : n + 1 - 4 ≤ n) hn) $$ HV
  icases H with ⟨HT, HV⟩
  unfold vbT
  icases HT with ⟨Hd, Hy, Hat, Hi'⟩
  ihave Hi := (opt_join (p := 4 ≤ n) (q := (fk n).val < 4) (by rw [fk_lt hn]; omega) (by rw [fk_lt hn]; omega) (vbIdle d (m4 (fk n)))) $$ [Hi Hi']
  · isplitl [Hi]; · iexact Hi
    iexact Hi'
  unfold vbIdle
  icases Hi with ⟨Hss, Hs⟩
  -- rounded
  iapply (wp_castS d Q _ (fk n) (xt m d (iS d (fk n)))) $$ [Hvf Hs]
  · isplitl [Hvf]; · iexact Hvf
    iexact Hs
  iintro ⟨Hvf, Hs⟩
  rw [← tile_S]
  -- the next load of this half
  iapply (wp_inNext m d Q _ n hn) $$ [Hvf Hvs Hx HI]
  · isplitl [Hvf Hvs]
    · unfold vfIdle
      isplitl [Hvs]; · iexact Hvs
      iapply (owns_hold d (slot2 vfA (m2 (fk n))) (xt m d (iS d (fk n)))); iexact Hvf
    isplitl [Hx]; · iexact Hx
    iexact HI
  iintro HI
  -- the two copies out of the slot
  ihave H := (owns_halves (d : Thread nD τ) (slot4 vbA (m4 (fk n))) fullShare (tile m d (jS d (fk n)))).1 $$ Hs
  icases H with ⟨Hs, Hs'⟩
  iapply (wp_stStart m d Q _ (fk n)) $$ [Hss Hs Hd]
  · isplitl [Hss]; · iexact Hss
    isplitl [Hs]; · iexact Hs
    iexact Hd
  iintro Hst
  iapply (wp_yStart m K d Q _ n n hn) $$ [Hs' Hy Hat HO]
  · isplitr; · iexact HR
    isplitl [Hs']; · iexact Hs'
    isplitl [Hy]; · iexact Hy
    isplitl [Hat]; · iexact Hat
    iexact HO
  iintro ⟨Hf, HO⟩
  ihave HV := HV $$ [Hst Hf]
  · unfold vbF
    isplitl [Hst]; · iexact Hst
    iexact Hf
  -- the other half arrives
  ihave H := (strip_finish (by omega : n < min (n + 2) 16) (by omega)) $$ HG
  icases H with ⟨HF, HG⟩
  iapply (wp_gWait m d Q _ (fk n) (n + 1) n) $$ [HF HO]
  · isplitr; · iexact Hl
    isplitl [HF]; · iexact HF
    iexact HO
  iintro ⟨⟨Hvf, Hx⟩, Hvs, HO⟩
  iapply (wp_gbGet m d Q _ n (n + 1) n hn) $$ [HB HO]
  · isplitr; · iexact Hl
    isplitl [HB]; · iexact HB
    iexact HO
  iintro ⟨HB, Hi, HO⟩
  ihave H := (strip_start (by omega : n + 1 - 2 ≤ n) hn) $$ HB
  icases H with ⟨HT, HB⟩
  unfold gbT
  icases HT with ⟨Hd, Hi'⟩
  ihave Hi := (opt_join (p := 2 ≤ n) (q := (fk n).val < 2) (by rw [fk_lt hn]; omega) (by rw [fk_lt hn]; omega) (gbIdle d (m2 (fk n)))) $$ [Hi Hi']
  · isplitl [Hi]; · iexact Hi
    iexact Hi'
  unfold gbIdle
  icases Hi with ⟨Hss, Hs⟩
  iapply (wp_castG d Q _ (fk n) (xt m d (iF d (fk n)))) $$ [Hvf Hs]
  · isplitl [Hvf]; · iexact Hvf
    iexact Hs
  iintro ⟨Hvf, Hs⟩
  rw [← tile_F]
  iapply (wp_gNext m d Q _ n hn) $$ [Hvf Hvs Hx HG]
  · isplitl [Hvf Hvs]
    · unfold gfIdle
      isplitl [Hvs]; · iexact Hvs
      iapply (owns_hold d (slot2 gfA (m2 (fk n))) (xt m d (iF d (fk n)))); iexact Hvf
    isplitl [Hx]; · iexact Hx
    iexact HG
  iintro HG
  iapply (wp_fillStart m d Q _ (fk n)) $$ [Hss Hs Hd]
  · isplitl [Hss]; · iexact Hss
    isplitl [Hs]; · iexact Hs
    iexact Hd
  iintro Hst
  ihave HB := HB $$ Hst
  -- the chunk from across y, forwarded
  ihave H := (strip_start (Nat.zero_le n) hn) $$ HW
  icases H with ⟨HT, HW⟩
  unfold fwT
  icases HT with ⟨Hx1, Hft, Hat⟩
  iapply (wp_yrWait m K d Q _ n n hn) $$ [Hx1 HO]
  · isplitr; · iexact HR
    isplitr; · iexact Hl
    isplitl [Hx1]; · iexact Hx1
    iexact HO
  iintro ⟨Ho, Hv1, HO⟩
  iapply (wp_fwStart m K d Q _ n (n + 1) hn) $$ [Ho Hft Hat HO]
  · isplitr; · iexact HR
    isplitl [Ho]; · iexact Ho
    isplitl [Hft]; · iexact Hft
    isplitl [Hat]; · iexact Hat
    iexact HO
  iintro ⟨Hf, HO⟩
  ihave HW := HW $$ [Hv1 Hf]
  · unfold fwF
    isplitl [Hv1]; · iexact Hv1
    iexact Hf
  iapply Hk
  isplitl [HI]; · iexact HI
  isplitl [HG]; · iexact HG
  isplitl [HV]; · iexact HV
  isplitl [HB]; · iexact HB
  isplitl [HW]; · iexact HW
  iexact HO

/-! ## All of them, and the waits after them -/

/-- Sixteen like steps, one after another. -/
theorem wp_sixteen (R : sProp 𝕄) [BI.Persistent R] (f : ℕ → List Op) (S : ℕ → sProp 𝕄)
    (h : ∀ n, n < 16 → ∀ k, iprop(R ∗ S n) ⊢ iprop((S (n + 1) -∗ wpd d Q k) -∗ wpd d Q (run d k (f n)))) :
    iprop(R ∗ S 0) ⊢ iprop((S 16 -∗ wpd d Q k) -∗ wpd d Q (run d k ((List.range 16).flatMap f))) := by
  suffices H : ∀ n, n ≤ 16 → ∀ k, iprop(R ∗ S 0) ⊢ iprop((S n -∗ wpd d Q k) -∗ wpd d Q (run d k ((List.range n).flatMap f))) from H 16 le_rfl k
  intro n
  induction n with
  | zero =>
    intro _ k
    iintro ⟨-, HS⟩ Hk
    iapply Hk; iexact HS
  | succ n ih =>
    intro hn k
    rw [List.range_succ, List.flatMap_append, run_append, List.flatMap_singleton]
    iintro ⟨#HR, HS⟩ Hk
    iapply (ih (by omega) _) $$ [HS]
    · isplitr; · iexact HR
      iexact HS
    iintro HS
    iapply (h n (by omega) k) $$ [HS]
    · isplitr; · iexact HR
      iexact HS
    iexact Hk

theorem wp_fsGo (n : ℕ) (hn : n < 16) :
    iprop(iprop(records m K ∗ levAts L lv) ∗ iprop(fwStrip m d n 16 ∗ debt d (Ox d 16 16)))
      ⊢ iprop((iprop(fwStrip m d (n + 1) 16 ∗ debt d (Ox d 16 16)) -∗ wpd d Q k) -∗ wpd d Q (run d k [.fsWait (fk n)])) := by
  iintro ⟨⟨#HR, #Hl⟩, HS, HO⟩ Hk
  ihave H := (strip_finish hn le_rfl) $$ HS
  icases H with ⟨HF, HS⟩
  unfold fwF
  icases HF with ⟨Hv, Hf⟩
  iapply (wp_fsWait m K d Q k (fk n)) $$ [Hf HO]
  · isplitr; · iexact HR
    isplitr; · iexact Hl
    isplitl [Hf]; · iexact Hf
    iexact HO
  iintro ⟨Ho, Hv', HO⟩
  iapply Hk
  isplitl [HS Hv Hv' Ho]
  · iapply HS
    unfold fwD
    isplitl [Hv]; · iexact Hv
    isplitl [Ho]; · iexact Ho
    iexact Hv'
  iexact HO

theorem wp_frGo (n : ℕ) (hn : n < 16) :
    iprop(iprop(records m K ∗ levAts L lv) ∗ iprop(frStrip m d n ∗ debt d (Ox d 16 16)))
      ⊢ iprop((iprop(frStrip m d (n + 1) ∗ debt d (Ox d 16 16)) -∗ wpd d Q k) -∗ wpd d Q (run d k [.frWait (fk n)])) := by
  iintro ⟨⟨#HR, #Hl⟩, HS, HO⟩ Hk
  ihave H := (strip_finish hn le_rfl) $$ HS
  icases H with ⟨Hf, HS⟩
  iapply (wp_frWait m K d Q k (fk n)) $$ [Hf HO]
  · isplitr; · iexact HR
    isplitr; · iexact Hl
    isplitl [Hf]; · iexact Hf
    iexact HO
  iintro ⟨Ho, Hv', HO⟩
  iapply Hk
  isplitl [HS Hv' Ho]
  · iapply HS
    unfold frD
    isplitl [Ho]; · iexact Ho
    iexact Hv'
  iexact HO

theorem ends_eq : opsEnd = .ysWait (fk 12) :: .stWait (fk 12) :: .ysWait (fk 13) :: .stWait (fk 13) :: .ysWait (fk 14) :: .stWait (fk 14)
    :: .ysWait (fk 15) :: .stWait (fk 15) :: .fillWait (fk 14) :: .fillWait (fk 15)
    :: ((List.range 16).flatMap (fun n => [.fsWait (fk n)]) ++ (List.range 16).flatMap (fun n => [.frWait (fk n)])) := by rfl

/-- What a device holds once every copy is done. -/
def Done : sProp 𝕄 :=
  iprop(bigSep Finset.univ (inD m d) ∗ bigSep Finset.univ (gD m d) ∗ bigSep Finset.univ (vbD m d) ∗ bigSep Finset.univ (gbD m d)
    ∗ bigSep Finset.univ (fwD m d) ∗ bigSep Finset.univ (frD m d) ∗ debt d 0)

theorem wp_ends :
    iprop(records m K ∗ levAts L lv ∗ St m d 16 ∗ frStrip m d 0)
      ⊢ iprop((Done m d -∗ wpd d Q k) -∗ wpd d Q (run d k opsEnd)) := by
  unfold St Done
  rw [ends_eq, show min (16 + 2) 16 = 16 from rfl, show 16 - 4 = 12 from rfl, show 16 - 2 = 14 from rfl]
  simp only [run, run_append]
  iintro ⟨#HR, #Hl, ⟨HI, HG, HV, HB, HW, HO⟩, HX⟩ Hk
  iapply (wp_vbRetire m K d Q _ 12 16 16 16 (by omega) le_rfl) $$ [HV HO]
  · isplitr; · iexact HR
    isplitr; · iexact Hl
    isplitl [HV]; · iexact HV
    iexact HO
  rw [opt_neg (by omega)]
  iintro ⟨HV, -, HO⟩
  iapply (wp_vbRetire m K d Q _ 13 16 16 16 (by omega) le_rfl) $$ [HV HO]
  · isplitr; · iexact HR
    isplitr; · iexact Hl
    isplitl [HV]; · iexact HV
    iexact HO
  rw [opt_neg (by omega)]
  iintro ⟨HV, -, HO⟩
  iapply (wp_vbRetire m K d Q _ 14 16 16 16 (by omega) le_rfl) $$ [HV HO]
  · isplitr; · iexact HR
    isplitr; · iexact Hl
    isplitl [HV]; · iexact HV
    iexact HO
  rw [opt_neg (by omega)]
  iintro ⟨HV, -, HO⟩
  iapply (wp_vbRetire m K d Q _ 15 16 16 16 (by omega) le_rfl) $$ [HV HO]
  · isplitr; · iexact HR
    isplitr; · iexact Hl
    isplitl [HV]; · iexact HV
    iexact HO
  rw [opt_neg (by omega)]
  iintro ⟨HV, -, HO⟩
  iapply (wp_gbRetire m d Q _ 14 16 16 16 (by omega) le_rfl) $$ [HB HO]
  · isplitr; · iexact Hl
    isplitl [HB]; · iexact HB
    iexact HO
  rw [opt_neg (by omega)]
  iintro ⟨HB, -, HO⟩
  iapply (wp_gbRetire m d Q _ 15 16 16 16 (by omega) le_rfl) $$ [HB HO]
  · isplitr; · iexact Hl
    isplitl [HB]; · iexact HB
    iexact HO
  rw [opt_neg (by omega)]
  iintro ⟨HB, -, HO⟩
  iapply (wp_sixteen d Q _ iprop(records m K ∗ levAts L lv) (fun n => [.fsWait (fk n)]) (fun n => iprop(fwStrip m d n 16 ∗ debt d (Ox d 16 16)))
    (fun n hn k => wp_fsGo m K d Q k n hn)) $$ [HW HO]
  · isplitr
    · isplitr; · iexact HR
      iexact Hl
    isplitl [HW]; · iexact HW
    iexact HO
  iintro ⟨HW, HO⟩
  iapply (wp_sixteen d Q _ iprop(records m K ∗ levAts L lv) (fun n => [.frWait (fk n)]) (fun n => iprop(frStrip m d n ∗ debt d (Ox d 16 16)))
    (fun n hn k => wp_frGo m K d Q k n hn)) $$ [HX HO]
  · isplitr
    · isplitr; · iexact HR
      iexact Hl
    isplitl [HX]; · iexact HX
    iexact HO
  iintro ⟨HX, HO⟩
  iapply Hk
  rw [Ox_end]
  isplitl [HI]; · iapply (Entails.of_eq (strip_done 16)); iexact HI
  isplitl [HG]; · iapply (Entails.of_eq (strip_done 16)); iexact HG
  isplitl [HV]; · iapply (Entails.of_eq (strip_done 16)); iexact HV
  isplitl [HB]; · iapply (Entails.of_eq (strip_done 16)); iexact HB
  isplitl [HW]; · iapply (Entails.of_eq (strip_done 16)); iexact HW
  isplitl [HX]; · iapply (Entails.of_eq (strip_done 16)); iexact HX
  iexact HO

theorem wp_chunks_ends :
    iprop(records m K ∗ levAts L lv ∗ St m d 0 ∗ frStrip m d 0)
      ⊢ iprop((Done m d -∗ wpd d Q k) -∗ wpd d Q (run d (run d k opsEnd) ((List.range 16).flatMap chunkOps))) := by
  iintro ⟨#HR, #Hl, HS, HX⟩ Hk
  iapply (wp_sixteen d Q _ iprop(records m K ∗ levAts L lv) chunkOps (St m d) (fun n hn k => by
    refine BI.sep_assoc.trans ?_; exact wp_chunk m K d Q k n hn)) $$ [HS]
  · isplitr
    · isplitr; · iexact HR
      iexact Hl
    iexact HS
  iintro HS
  iapply (wp_ends m K d Q k) $$ [HS HX]
  · isplitr; · iexact HR
    isplitr; · iexact Hl
    isplitl [HS]; · iexact HS
    iexact HX
  iexact Hk

end Cert.KernelIdeal.Ring

end
-- ==== Proof.KernelIdealBody.lean ====
/-
The body of one device, from its start to its end.
-/
module

public import proofs.«01_k».proof.Proof.KernelIdealChunk

@[expose] public section

noncomputable section

namespace Cert.KernelIdeal.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

local notation "𝕄" => MT nD τ sig Unit (Elt F) ℕ UU ℕ

variable (m : (ℓ : Loc nD τ sig) → Buf (Elt F) ℓ)

variable (K : Dev nD × Kd → ℕ)
variable (d : Dev nD) (Q : PUnit.{1} → sProp (MT nD τ sig Unit (Elt F) ℕ UU ℕ)) (k : Prog (TpuEff nD τ sig (Elt F) Λ₀ .tc) PUnit)

/-- Chunk `c` of the sent half, and of what arrives from across y, before the handshake. -/
def vbPre (c : Fin 16) : sProp 𝕄 :=
  iprop(hold d (oC (jS d c)) ∗ (dutyTok ER (xc d 0 c) 0 false ∗ dutyTok ER (xc (ynbr d) 1 c) 0 false) ∗ atPos ER (xc d 0 c) 0 ∅ 0
    ∗ opt (c.val < 4) (vbIdle d (m4 c)))
def fwPre (c : Fin 16) : sProp 𝕄 :=
  iprop(xFl d 1 c ∗ (dutyTok ER (xc d 2 c) 0 false ∗ dutyTok ER (xc (partner d) 3 c) 0 false) ∗ atPos ER (xc d 2 c) 0 ∅ 0)

theorem vb_one (c : Fin 16) : iprop(hold (F := F) (ynbr d) (oC (jS d c)) ∗ vbPre d c) ⊢ vbT d c := by
  unfold vbPre vbT yTodo
  iintro ⟨Hh, Hd, ⟨Ht, Ht'⟩, Hat, Hi⟩
  isplitl [Hd]; · iexact Hd
  isplitl [Hh Ht Ht']
  · isplitl [Hh]; · iexact Hh
    isplitl [Ht]; · iexact Ht
    iexact Ht'
  isplitl [Hat]; · iexact Hat
  iexact Hi
theorem vb_ready : iprop(getY d ∗ bigSep Finset.univ (vbPre (F := F) d)) ⊢ bigSep Finset.univ (vbT d) := by
  unfold getY; exact (Entails.of_eq (bigSep_sep _ _ _).symm).trans (bigSep_mono fun c _ => vb_one d c)
theorem fw_one (c : Fin 16) : iprop(hold (F := F) (partner d) (oC (jR d c)) ∗ fwPre d c) ⊢ fwT d c := by
  unfold fwPre fwT fTodo
  iintro ⟨Hh, Hx, ⟨Ht, Ht'⟩, Hat⟩
  isplitl [Hx]; · iexact Hx
  isplitl [Hh Ht Ht']
  · isplitl [Hh]; · iexact Hh
    isplitl [Ht]; · iexact Ht
    iexact Ht'
  iexact Hat
theorem fw_ready : iprop(getP d ∗ bigSep Finset.univ (fwPre (F := F) d)) ⊢ bigSep Finset.univ (fwT d) := by
  unfold getP; exact (Entails.of_eq (bigSep_sep _ _ _).symm).trans (bigSep_mono fun c _ => fw_one d c)

theorem strip_flying {T D : Fin 16 → sProp (MT nD τ sig Unit (Elt F) ℕ UU ℕ)} (Fl : Fin 16 → sProp (MT nD τ sig Unit (Elt F) ℕ UU ℕ)) :
    strip T Fl D 0 16 = bigSep Finset.univ Fl := by
  unfold strip; exact bigSep_congr fun c _ => by rw [if_neg (by omega), if_pos c.isLt]

/-- What a device starts with. -/
def Start : sProp 𝕄 :=
  iprop(bigSep Finset.univ (inT m d) ∗ bigSep Finset.univ (gT m d) ∗ bigSep Finset.univ (vbPre d) ∗ bigSep Finset.univ (gbT d)
    ∗ bigSep Finset.univ (fwPre d) ∗ bigSep Finset.univ (xFl d 3) ∗ giveY d ∗ giveP d
    ∗ dutyTok ER (barC (ynbr d)) 0 false ∗ dutyTok ER (barC (partner d)) 0 true
    ∗ cred (tallyAt (barC d) () 2) ∗ atPos ER (barC d) 0 ∅ 0 ∗ debt d (O₀ d))

theorem starts_eq : opsStart = [.inStart (fk 0), .gStart (fk 0), .inStart (fk 1), .gStart (fk 1), .sigY, .sigP, .barWait] := rfl

/-- The whole body: from what a device starts with to every copy done, the handshake's semaphore back at zero. -/
theorem wp_body :
    iprop(records m K ∗ levAts L lv ∗ Start m d)
      ⊢ iprop((iprop(Done m d ∗ semVal (barC d) 0) -∗ wpd d Q k) -∗ wpd d Q (run d k ops)) := by
  unfold Start ops
  rw [run_append, run_append, starts_eq, chunks_eq]
  simp only [run]
  iintro ⟨#HR, #Hl, HI, HG, HV, HB, HW, HX, HgY, HgP, Ht, Ht', Hc, Hat, HO⟩ Hk
  ihave HI := (Entails.of_eq (strip_todo (T := inT m d) (Fl := inFl m d) (D := inD m d)).symm) $$ HI
  ihave HG := (Entails.of_eq (strip_todo (T := gT m d) (Fl := gFl m d) (D := gD m d)).symm) $$ HG
  iapply (wp_inGo m d Q _ 0 0 le_rfl (by omega)) $$ [HI]
  · isplitl [HI]; · iexact HI
    rw [opt_neg (by omega)]; iempintro
  iintro HI
  iapply (wp_gGo m d Q _ 0 0 le_rfl (by omega)) $$ [HG]
  · isplitl [HG]; · iexact HG
    rw [opt_neg (by omega)]; iempintro
  iintro HG
  iapply (wp_inGo m d Q _ 1 0 (by omega) (by omega)) $$ [HI]
  · isplitl [HI]; · iexact HI
    rw [opt_neg (by omega)]; iempintro
  iintro HI
  iapply (wp_gGo m d Q _ 1 0 (by omega) (by omega)) $$ [HG]
  · isplitl [HG]; · iexact HG
    rw [opt_neg (by omega)]; iempintro
  iintro HG
  iapply (wp_sigY m K d Q _) $$ [HO Ht HgY]
  · isplitr; · iexact HR
    isplitl [HO]; · iexact HO
    isplitl [Ht]; · iexact Ht
    iexact HgY
  iintro HO
  iapply (wp_sigP m K d Q _) $$ [HO Ht' HgP]
  · isplitr; · iexact HR
    isplitl [HO]; · iexact HO
    isplitl [Ht']; · iexact Ht'
    iexact HgP
  iintro HO
  iapply (wp_barWait m K d Q _) $$ [HO Hc Hat]
  · isplitr; · iexact HR
    isplitr; · iexact Hl
    isplitl [HO]; · iexact HO
    isplitl [Hc]; · iexact Hc
    iexact Hat
  iintro ⟨HO, Hz, HY, HP⟩
  iapply (wp_chunks_ends m K d Q k) $$ [HI HG HV HB HW HX HO HY HP]
  · isplitr; · iexact HR
    isplitr; · iexact Hl
    isplitr [HX]
    · unfold St
      isplitl [HI]; · iexact HI
      isplitl [HG]; · iexact HG
      isplitl [HV HY]
      · iapply (Entails.of_eq (strip_todo (T := vbT d) (Fl := vbF m d) (D := vbD m d)).symm)
        iapply (vb_ready d)
        isplitl [HY]; · iexact HY
        iexact HV
      isplitl [HB]
      · iapply (Entails.of_eq (strip_todo (T := gbT d) (Fl := fillFl m d) (D := gbD m d)).symm)
        iexact HB
      isplitl [HW HP]
      · iapply (Entails.of_eq (strip_todo (T := fwT d) (Fl := fwF d) (D := fwD m d)).symm)
        iapply (fw_ready d)
        isplitl [HP]; · iexact HP
        iexact HW
      iexact HO
    · iapply (Entails.of_eq (strip_flying (D := frD m d) (xFl (F := F) d 3)).symm)
      iexact HX
  iintro HD
  iapply Hk
  isplitl [HD]; · iexact HD
  iexact Hz

end Cert.KernelIdeal.Ring

end
-- ==== Proof.KernelIdealSplit.lean ====
/-
A device's buffers, whole and in pieces.
-/
module

public import proofs.«01_k».proof.Proof.KernelIdealBody
public import Idealize.ShloMosaic.Lib.Ring

@[expose] public section

noncomputable section

namespace Cert.KernelIdeal.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

local notation "𝕄" => MT nD τ sig Unit (Elt F) ℕ UU ℕ

variable (m : (ℓ : Loc nD τ sig) → Buf (Elt F) ℓ)

/-! ## The chunks of an array cover it -/

theorem chunk_mem {n r : ℕ} (h : r < 1024 * n) : r / 1024 < n ∧ 1024 * (r / 1024) ≤ r ∧ r < 1024 * (r / 1024) + 1024 := by omega

theorem set_xC (i : Fin 32) : (xC i).view.set = (rectX i).set := View.set_slice_whole _ _
theorem set_oC (j : Fin 64) : (oC j).view.set = (rectO j).set := View.set_slice_whole _ _

theorem xC_disjoint (i i' : Fin 32) (h : i ≠ i') : Disjoint (rectX i).set (rectX i').set := by
  exact Rect.unit_disjoint 0 (show 1024 * i.val + 1024 ≤ 1024 * i'.val ∨ 1024 * i'.val + 1024 ≤ 1024 * i.val by
    have := Fin.val_ne_of_ne h; omega)
theorem oC_disjoint (j j' : Fin 64) (h : j ≠ j') : Disjoint (rectO j).set (rectO j').set := by
  exact Rect.unit_disjoint 0 (show 1024 * j.val + 1024 ≤ 1024 * j'.val ∨ 1024 * j'.val + 1024 ≤ 1024 * j.val by
    have := Fin.val_ne_of_ne h; omega)
theorem slot2_disjoint (s s' : Fin 2) (h : s ≠ s') : Disjoint (rect2 s).set (rect2 s').set :=
  Rect.unit_disjoint 0 (show s.val + 1 ≤ s'.val ∨ s'.val + 1 ≤ s.val by have := Fin.val_ne_of_ne h; omega)
theorem slot4_disjoint (s s' : Fin 4) (h : s ≠ s') : Disjoint (rect4 s).set (rect4 s').set :=
  Rect.unit_disjoint 0 (show s.val + 1 ≤ s'.val ∨ s'.val + 1 ≤ s.val by have := Fin.val_ne_of_ne h; omega)

/-- The chunk a row of the argument lies in; -/
theorem mem_xC (x : S32768x1024.Idx) : x ∈ (rectX ⟨(x 0).val / 1024, (chunk_mem (n := 32) (x 0).isLt).1⟩).set := by
  rw [Rect.mem_set_unit, Fin.forall_fin_two]
  exact ⟨(chunk_mem (n := 32) (x 0).isLt).2, Nat.zero_le _, by have h : (x 1).val < 1024 := (x 1).isLt; show (x 1).val < 0 + 1024; omega⟩
/-- of the result. -/
theorem mem_oC (x : S65536x1024.Idx) : x ∈ (rectO ⟨(x 0).val / 1024, (chunk_mem (n := 64) (x 0).isLt).1⟩).set := by
  rw [Rect.mem_set_unit, Fin.forall_fin_two]
  exact ⟨(chunk_mem (n := 64) (x 0).isLt).2, Nat.zero_le _, by have h : (x 1).val < 1024 := (x 1).isLt; show (x 1).val < 0 + 1024; omega⟩
theorem mem_slot2 (x : S2x1024x1024.Idx) : x ∈ (rect2 (x 0)).set := by
  rw [Rect.mem_set_unit]
  intro a
  fin_cases a
  · exact ⟨le_rfl, Nat.lt_succ_self _⟩
  · exact ⟨Nat.zero_le _, by have h : (x 1).val < 1024 := (x 1).isLt; show (x 1).val < 0 + 1024; omega⟩
  · exact ⟨Nat.zero_le _, by have h : (x 2).val < 1024 := (x 2).isLt; show (x 2).val < 0 + 1024; omega⟩
theorem mem_slot4 (x : S4x1024x1024.Idx) : x ∈ (rect4 (x 0)).set := by
  rw [Rect.mem_set_unit]
  intro a
  fin_cases a
  · exact ⟨le_rfl, Nat.lt_succ_self _⟩
  · exact ⟨Nat.zero_le _, by have h : (x 1).val < 1024 := (x 1).isLt; show (x 1).val < 0 + 1024; omega⟩
  · exact ⟨Nat.zero_le _, by have h : (x 2).val < 1024 := (x 2).isLt; show (x 2).val < 0 + 1024; omega⟩

/-! ## An array held whole is held piece by piece -/

variable (d : Dev nD)

section Pieces
variable (b : Ref sig .tc) {B : Type} [Fintype B] [DecidableEq B] (R : B → Rect b.ty.shape)
  (hd : ∀ k k', k ≠ k' → Disjoint (R k).set (R k').set) (hm : ∀ x : b.ty.Idx, ∃ k, x ∈ (R k).set)

/-- Device `d`'s buffer `b` on a rectangle, holding `f`; -/
def piece (k : B) (f : Buf (Elt F) ((d : Thread nD τ).loc b)) : sProp 𝕄 :=
  (d : Thread nD τ).loc b ↦[(show Finset (Idx ((d : Thread nD τ).loc b)) from (R k).set)]{fullShare} f
/-- holding anything; -/
def pieceSome (k : B) : sProp 𝕄 := iprop(∃ f, piece (F := F) d b R k f)
/-- and whole, holding anything. -/
def some0 : sProp 𝕄 := iprop(∃ f : Buf (Elt F) ((d : Thread nD τ).loc b), (d : Thread nD τ).loc b ↦{fullShare} f)

include hd hm

theorem pieces_cover : (Finset.univ : Finset B).biUnion (fun k => (show Finset (Idx ((d : Thread nD τ).loc b)) from (R k).set)) = Finset.univ :=
  Finset.eq_univ_of_forall fun x => let ⟨k, hk⟩ := hm x; Finset.mem_biUnion.mpr ⟨k, Finset.mem_univ _, hk⟩
theorem pieces_eq (f : Buf (Elt F) ((d : Thread nD τ).loc b)) :
    ((d : Thread nD τ).loc b ↦{fullShare} f : sProp 𝕄) = bigSep Finset.univ fun k => piece d b R k f :=
  Idealize.ShloMosaic.Ring.pointsTo_blocks (ℓ := (d : Thread nD τ).loc b) (fun k => (R k).set) hd (pieces_cover d b R hd hm) f
theorem pieces_some (f : Buf (Elt F) ((d : Thread nD τ).loc b)) :
    ((d : Thread nD τ).loc b ↦{fullShare} f : sProp 𝕄) ⊢ bigSep Finset.univ fun k => pieceSome (F := F) d b R k :=
  (Entails.of_eq (pieces_eq d b R hd hm f)).trans
    (bigSep_mono fun k _ => show piece d b R k f ⊢ pieceSome (F := F) d b R k by unfold pieceSome; iintro H; iexists f; iexact H)
theorem pieces_split : some0 (F := F) d b ⊢ bigSep Finset.univ fun k => pieceSome (F := F) d b R k := by
  unfold some0
  iintro ⟨%f, H⟩
  iapply (pieces_some d b R hd hm f) $$ H
theorem pieces_join (f₀ : Buf (Elt F) ((d : Thread nD τ).loc b)) :
    (bigSep Finset.univ fun k => pieceSome (F := F) d b R k) ⊢ some0 (F := F) d b :=
  Idealize.ShloMosaic.Ring.pointsTo_blocks_join_exists (ℓ := (d : Thread nD τ).loc b) (fun k => (R k).set) hd (pieces_cover d b R hd hm) f₀
end Pieces

theorem xOwn_piece (i : Fin 32) : xOwn m d i = piece d main_arg0 rectX i (m ((d : Thread nD τ).loc main_arg0)) := by
  show ((d : Thread nD τ).loc main_arg0 ↦[(xC i).view.set]{fullShare} m ((d : Thread nD τ).loc main_arg0) : sProp 𝕄) = _
  exact congrArg (fun S => ((d : Thread nD τ).loc main_arg0 ↦[S]{fullShare} m ((d : Thread nD τ).loc main_arg0) : sProp 𝕄)) (set_xC i)
/-- What a matrix names in a buffer is its rectangle. -/
theorem hold_piece (b : Ref sig .tc) {B : Type} (R : B → Rect b.ty.shape) (k : B) (S : Finset (Idx ((d : Thread nD τ).loc b))) (hS : S = (R k).set) :
    (iprop(∃ f : Buf (Elt F) ((d : Thread nD τ).loc b), (d : Thread nD τ).loc b ↦[S]{fullShare} f) : sProp 𝕄) = pieceSome d b R k := by
  subst hS; rfl
theorem hold_oC (j : Fin 64) : hold (F := F) d (oC j) = pieceSome d main_v1 rectO j := hold_piece d main_v1 rectO j _ (set_oC j)

theorem x_split : ((d : Thread nD τ).loc main_arg0 ↦{fullShare} m ((d : Thread nD τ).loc main_arg0) : sProp 𝕄)
    = bigSep Finset.univ fun i : Fin 32 => xOwn m d i :=
  (pieces_eq d main_arg0 rectX xC_disjoint (fun x => ⟨_, mem_xC x⟩) _).trans (bigSep_congr fun i _ => (xOwn_piece m d i).symm)
theorem o_split (f : Buf (Elt F) ((d : Thread nD τ).loc main_v1)) : ((d : Thread nD τ).loc main_v1 ↦{fullShare} f : sProp 𝕄)
    ⊢ bigSep Finset.univ fun j : Fin 64 => hold d (oC j) :=
  (pieces_some d main_v1 rectO oC_disjoint (fun x => ⟨_, mem_oC x⟩) f).trans (Entails.of_eq (bigSep_congr fun j _ => (hold_oC d j).symm))

/-- What device `d`'s result is to hold, element by element. -/
def outF (d : Dev nD) : Buf (Elt F) ((d : Thread nD τ).loc main_v1) := fun x : S65536x1024.Idx =>
  tile m d ⟨(x 0).val / 1024, (chunk_mem (n := 64) (x 0).isLt).1⟩
    (fun | ⟨0, _⟩ => ⟨(x 0).val % 1024, Nat.mod_lt _ (by decide)⟩ | ⟨1, _⟩ => x 1)

theorem outF_emb (j : Fin 64) (x : S1024x1024.Idx) : outF m d ((oC j).view.emb x) = tile m d j x := by
  have h0 : (x 0).val < 1024 := (x 0).isLt
  have e0 : (((oC j).view.emb x : S65536x1024.Idx) 0).val = 1024 * j.val + 1 * (x 0).val := rfl
  have e1 : (((oC j).view.emb x : S65536x1024.Idx) 1).val = 0 + 1 * (x 1).val := rfl
  unfold outF
  congr 1
  · congr 1
    show (((oC j).view.emb x : S65536x1024.Idx) 0).val / 1024 = j.val
    rw [e0]; omega
  · funext a
    match a with
    | ⟨0, _⟩ =>
      apply Fin.ext
      show (((oC j).view.emb x : S65536x1024.Idx) 0).val % 1024 = (x 0).val
      rw [e0]; omega
    | ⟨1, _⟩ =>
      apply Fin.ext
      show (((oC j).view.emb x : S65536x1024.Idx) 1).val = (x 1).val
      rw [e1]; omega

/-- A chunk of the result is that chunk of the whole. -/
theorem oOwn_outF (j : Fin 64) : oOwn m d j ⊢ piece d main_v1 rectO j (outF m d) := by
  unfold oOwn owns
  iintro ⟨%f, %hf, H⟩
  have e : ∀ i ∈ (oC j).view.set, f i = outF m d i := fun i hi => by
    obtain ⟨x, -, hx⟩ := Finset.mem_map.mp hi
    rw [← hx, outF_emb, ← hf]; rfl
  have h : ((oC j).view.loc (d : Thread nD τ) ↦[(oC j).view.set]{fullShare} f : sProp 𝕄) = piece d main_v1 rectO j (outF m d) :=
    (pointsTo_congr (ℓ := (d : Thread nD τ).loc main_v1) e).trans
      (congrArg (fun S => ((d : Thread nD τ).loc main_v1 ↦[S]{fullShare} outF m d : sProp 𝕄)) (set_oC j))
  iapply (Entails.of_eq h) $$ H
theorem o_join : bigSep Finset.univ (fun j : Fin 64 => oOwn m d j) ⊢ ((d : Thread nD τ).loc main_v1 ↦{fullShare} outF m d : sProp 𝕄) :=
  (bigSep_mono fun j _ => oOwn_outF m d j).trans
    (Entails.of_eq (pieces_eq d main_v1 rectO oC_disjoint (fun x => ⟨_, mem_oC x⟩) _).symm)

/-! ## The slots of a buffer -/

theorem hold_vf (s : Fin 2) : hold (F := F) d (slot2 vfA s) = pieceSome d cc0_scratch0 rect2 s :=
  hold_piece d cc0_scratch0 rect2 s _ ((set_slot2 vfA s).trans (View.set_slice_whole _ _))
theorem hold_vb (s : Fin 4) : hold (F := F) d (slot4 vbA s) = pieceSome d cc0_scratch1 rect4 s :=
  hold_piece d cc0_scratch1 rect4 s _ ((set_slot4 vbA s).trans (View.set_slice_whole _ _))
theorem hold_gf (s : Fin 2) : hold (F := F) d (slot2 gfA s) = pieceSome d cc0_scratch2 rect2 s :=
  hold_piece d cc0_scratch2 rect2 s _ ((set_slot2 gfA s).trans (View.set_slice_whole _ _))
theorem hold_gb (s : Fin 2) : hold (F := F) d (slot2 gbA s) = pieceSome d cc0_scratch3 rect2 s :=
  hold_piece d cc0_scratch3 rect2 s _ ((set_slot2 gbA s).trans (View.set_slice_whole _ _))

theorem vf_split : some0 (F := F) d cc0_scratch0 ⊢ bigSep Finset.univ fun s : Fin 2 => hold d (slot2 vfA s) :=
  (pieces_split d cc0_scratch0 rect2 slot2_disjoint (fun x => ⟨_, mem_slot2 x⟩)).trans (Entails.of_eq (bigSep_congr fun s _ => (hold_vf d s).symm))
include m in
theorem vf_join : bigSep Finset.univ (fun s : Fin 2 => hold d (slot2 vfA s)) ⊢ some0 (F := F) d cc0_scratch0 :=
  (Entails.of_eq (bigSep_congr fun s _ => hold_vf d s)).trans
    (pieces_join d cc0_scratch0 rect2 slot2_disjoint (fun x => ⟨_, mem_slot2 x⟩) (m ((d : Thread nD τ).loc cc0_scratch0)))
theorem vb_split : some0 (F := F) d cc0_scratch1 ⊢ bigSep Finset.univ fun s : Fin 4 => hold d (slot4 vbA s) :=
  (pieces_split d cc0_scratch1 rect4 slot4_disjoint (fun x => ⟨_, mem_slot4 x⟩)).trans (Entails.of_eq (bigSep_congr fun s _ => (hold_vb d s).symm))
include m in
theorem vb_join : bigSep Finset.univ (fun s : Fin 4 => hold d (slot4 vbA s)) ⊢ some0 (F := F) d cc0_scratch1 :=
  (Entails.of_eq (bigSep_congr fun s _ => hold_vb d s)).trans
    (pieces_join d cc0_scratch1 rect4 slot4_disjoint (fun x => ⟨_, mem_slot4 x⟩) (m ((d : Thread nD τ).loc cc0_scratch1)))
theorem gf_split : some0 (F := F) d cc0_scratch2 ⊢ bigSep Finset.univ fun s : Fin 2 => hold d (slot2 gfA s) :=
  (pieces_split d cc0_scratch2 rect2 slot2_disjoint (fun x => ⟨_, mem_slot2 x⟩)).trans (Entails.of_eq (bigSep_congr fun s _ => (hold_gf d s).symm))
include m in
theorem gf_join : bigSep Finset.univ (fun s : Fin 2 => hold d (slot2 gfA s)) ⊢ some0 (F := F) d cc0_scratch2 :=
  (Entails.of_eq (bigSep_congr fun s _ => hold_gf d s)).trans
    (pieces_join d cc0_scratch2 rect2 slot2_disjoint (fun x => ⟨_, mem_slot2 x⟩) (m ((d : Thread nD τ).loc cc0_scratch2)))
theorem gb_split : some0 (F := F) d cc0_scratch3 ⊢ bigSep Finset.univ fun s : Fin 2 => hold d (slot2 gbA s) :=
  (pieces_split d cc0_scratch3 rect2 slot2_disjoint (fun x => ⟨_, mem_slot2 x⟩)).trans (Entails.of_eq (bigSep_congr fun s _ => (hold_gb d s).symm))
include m in
theorem gb_join : bigSep Finset.univ (fun s : Fin 2 => hold d (slot2 gbA s)) ⊢ some0 (F := F) d cc0_scratch3 :=
  (Entails.of_eq (bigSep_congr fun s _ => hold_gb d s)).trans
    (pieces_join d cc0_scratch3 rect2 slot2_disjoint (fun x => ⟨_, mem_slot2 x⟩) (m ((d : Thread nD τ).loc cc0_scratch3)))

/-! ## The chunks sorted by where they come from -/

/-- The argument's two halves: sent, and only stored. -/
def halfOf (d : Dev nD) : Fin 2 → Fin 16 → Fin 32
  | 0 => iS d
  | 1 => iF d
/-- The result's four quarters: own sent, own other, received, forwarded. -/
def quarterOf (d : Dev nD) : Fin 4 → Fin 16 → Fin 64
  | 0 => jS d
  | 1 => jF d
  | 2 => jR d
  | 3 => jW d

theorem halfOf_injective : Function.Injective fun ak : Fin 2 × Fin 16 => halfOf d ak.1 ak.2 := by
  rintro ⟨a, k⟩ ⟨b, l⟩ h
  have h := congrArg Fin.val h
  have hz : d.val % 2 < 2 := Nat.mod_lt _ (by decide)
  have hk := k.isLt
  have hl := l.isLt
  fin_cases a <;> fin_cases b <;> simp only [halfOf, iS, iF] at h <;> first
    | omega
    | (have : k = l := Fin.ext (by omega)
       subst this; rfl)
theorem quarterOf_injective : Function.Injective fun ak : Fin 4 × Fin 16 => quarterOf d ak.1 ak.2 := by
  rintro ⟨a, k⟩ ⟨b, l⟩ h
  have h := congrArg Fin.val h
  have hz : d.val % 2 < 2 := Nat.mod_lt _ (by decide)
  have hy : d.val / 4 % 2 < 2 := Nat.mod_lt _ (by decide)
  have hk := k.isLt
  have hl := l.isLt
  fin_cases a <;> fin_cases b <;> simp only [quarterOf, jS, jF, jR, jW] at h <;> first
    | omega
    | (have : k = l := Fin.ext (by omega)
       subst this; rfl)
def halves : Fin 2 × Fin 16 ≃ Fin 32 :=
  Equiv.ofBijective _ ((Fintype.bijective_iff_injective_and_card _).mpr ⟨halfOf_injective d, by decide⟩)
def quarters : Fin 4 × Fin 16 ≃ Fin 64 :=
  Equiv.ofBijective _ ((Fintype.bijective_iff_injective_and_card _).mpr ⟨quarterOf_injective d, by decide⟩)

theorem bigSep_fin4 (Φ : Fin 4 → sProp 𝕄) : bigSep Finset.univ Φ = iprop(Φ 0 ∗ Φ 1 ∗ Φ 2 ∗ Φ 3) :=
  bigSep_univ_eq_bigSepL [0, 1, 2, 3] (by decide) (by decide) Φ

theorem by_half (Φ : Fin 32 → sProp 𝕄) :
    bigSep Finset.univ Φ = iprop((bigSep Finset.univ fun k => Φ (iS d k)) ∗ (bigSep Finset.univ fun k => Φ (iF d k))) := by
  rw [bigSep_univ_equiv (halves d) Φ, bigSep_univ_prod, bigSep_fin_two]; rfl
theorem by_quarter (Φ : Fin 64 → sProp 𝕄) :
    bigSep Finset.univ Φ = iprop((bigSep Finset.univ fun k => Φ (jS d k)) ∗ (bigSep Finset.univ fun k => Φ (jF d k))
      ∗ (bigSep Finset.univ fun k => Φ (jR d k)) ∗ (bigSep Finset.univ fun k => Φ (jW d k))) := by
  rw [bigSep_univ_equiv (quarters d) Φ, bigSep_univ_prod, bigSep_fin4]; rfl

/-! ## Slots dealt to chunks -/

/-- Slots dealt one each to the chunks that meet a condition. -/
theorem deal {n : ℕ} (p : Fin 16 → Prop) [DecidablePred p] (f : Fin 16 → Fin n) (hi : ∀ c c', p c → p c' → f c = f c' → c = c')
    (hs : ∀ s, ∃ c, p c ∧ f c = s) (Φ : Fin n → sProp 𝕄) :
    bigSep Finset.univ (fun c => opt (p c) (Φ (f c))) = bigSep Finset.univ Φ := by
  unfold opt
  refine ((bigSep_filter Finset.univ p fun c => Φ (f c)).symm.trans (bigSep_subtype p (fun c => Φ (f c))).symm).trans ?_
  exact (bigSep_univ_equiv (Equiv.ofBijective (fun c : {c // p c} => f c.1)
    ⟨fun c c' h => Subtype.ext (hi _ _ c.2 c'.2 h), fun s => let ⟨c, hc, h⟩ := hs s; ⟨⟨c, hc⟩, h⟩⟩) Φ).symm

theorem deal2_first (Φ : Fin 2 → sProp 𝕄) : bigSep Finset.univ (fun c : Fin 16 => opt (c.val < 2) (Φ (m2 c))) = bigSep Finset.univ Φ :=
  deal (fun c => c.val < 2) m2 (by decide) (by decide) Φ
theorem deal2_last (Φ : Fin 2 → sProp 𝕄) : bigSep Finset.univ (fun c : Fin 16 => opt (14 ≤ c.val) (Φ (m2 c))) = bigSep Finset.univ Φ :=
  deal (fun c => 14 ≤ c.val) m2 (by decide) (by decide) Φ
theorem deal4_first (Φ : Fin 4 → sProp 𝕄) : bigSep Finset.univ (fun c : Fin 16 => opt (c.val < 4) (Φ (m4 c))) = bigSep Finset.univ Φ :=
  deal (fun c => c.val < 4) m4 (by decide) (by decide) Φ
theorem deal4_last (Φ : Fin 4 → sProp 𝕄) : bigSep Finset.univ (fun c : Fin 16 => opt (12 ≤ c.val) (Φ (m4 c))) = bigSep Finset.univ Φ :=
  deal (fun c => 12 ≤ c.val) m4 (by decide) (by decide) Φ

end Cert.KernelIdeal.Ring

end
-- ==== Proof.KernelIdealEnds.lean ====
/-
What a device is dealt at launch is what its body starts with; what its body ends with is its buffers whole again.
-/
module

public import proofs.«01_k».proof.Proof.KernelIdealSplit

@[expose] public section

noncomputable section

namespace Cert.KernelIdeal.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

local notation "𝕄" => MT nD τ sig Unit (Elt F) ℕ UU ℕ

variable (m : (ℓ : Loc nD τ sig) → Buf (Elt F) ℓ)

variable (d : Dev nD)

/-! ## The semaphores of the local copies -/

/-- The local copies' semaphores: of the incoming sent half (two), of the rounded sent half (four), of the incoming
    other half (two), of the rounded other half (two). -/
abbrev LS : Type := (Fin 2 ⊕ Fin 4) ⊕ (Fin 2 ⊕ Fin 2)
abbrev lsem : LS → SemLoc sig
  | .inl (.inl s) => .dma (sem2 cc0_scratch4 s)
  | .inl (.inr s) => .dma (sem4 cc0_scratch5 s)
  | .inr (.inl s) => .dma (sem2 cc0_scratch6 s)
  | .inr (.inr s) => .dma (sem2 cc0_scratch7 s)
/-- All of them at zero on device `d`; -/
def locals0 : sProp 𝕄 := bigSep Finset.univ fun s : LS => semVal ((d : Thread nD τ), lsem s) 0
/-- those of one array of semaphores. -/
def zeros {n : ℕ} (f : Fin n → SemLoc sig) : sProp 𝕄 := bigSep Finset.univ fun s => semVal ((d : Thread nD τ), f s) 0

theorem locals0_eq : locals0 (F := F) d
    = iprop((zeros d (fun s : Fin 2 => .dma (sem2 cc0_scratch4 s)) ∗ zeros d (fun s : Fin 4 => .dma (sem4 cc0_scratch5 s)))
      ∗ (zeros d (fun s : Fin 2 => .dma (sem2 cc0_scratch6 s)) ∗ zeros d (fun s : Fin 2 => .dma (sem2 cc0_scratch7 s)))) := by
  unfold locals0 zeros
  rw [bigSep_univ_sum, bigSep_univ_sum, bigSep_univ_sum]
  rfl

/-! ## Each kind of copy's chunks, gathered -/

/-- Idle slots are their semaphores at zero and their buffer. -/
theorem vfIdle_eq : bigSep Finset.univ (vfIdle (F := F) d)
    = iprop(zeros d (fun s : Fin 2 => .dma (sem2 cc0_scratch4 s)) ∗ bigSep Finset.univ fun s : Fin 2 => hold d (slot2 vfA s)) :=
  bigSep_sep _ _ _
theorem vbIdle_eq : bigSep Finset.univ (vbIdle (F := F) d)
    = iprop(zeros d (fun s : Fin 4 => .dma (sem4 cc0_scratch5 s)) ∗ bigSep Finset.univ fun s : Fin 4 => hold d (slot4 vbA s)) :=
  bigSep_sep _ _ _
theorem gfIdle_eq : bigSep Finset.univ (gfIdle (F := F) d)
    = iprop(zeros d (fun s : Fin 2 => .dma (sem2 cc0_scratch6 s)) ∗ bigSep Finset.univ fun s : Fin 2 => hold d (slot2 gfA s)) :=
  bigSep_sep _ _ _
theorem gbIdle_eq : bigSep Finset.univ (gbIdle (F := F) d)
    = iprop(zeros d (fun s : Fin 2 => .dma (sem2 cc0_scratch7 s)) ∗ bigSep Finset.univ fun s : Fin 2 => hold d (slot2 gbA s)) :=
  bigSep_sep _ _ _

/-- Chunks with their idle slots are the chunks and all idle slots: before, -/
theorem first2 (A : Fin 16 → sProp 𝕄) (Φ : Fin 2 → sProp 𝕄) :
    bigSep Finset.univ (fun c : Fin 16 => iprop(A c ∗ opt (c.val < 2) (Φ (m2 c)))) = iprop(bigSep Finset.univ A ∗ bigSep Finset.univ Φ) :=
  (bigSep_sep _ _ _).trans (congrArg (BI.sep _) (deal2_first Φ))
theorem last2 (A : Fin 16 → sProp 𝕄) (Φ : Fin 2 → sProp 𝕄) :
    bigSep Finset.univ (fun c : Fin 16 => iprop(A c ∗ opt (14 ≤ c.val) (Φ (m2 c)))) = iprop(bigSep Finset.univ A ∗ bigSep Finset.univ Φ) :=
  (bigSep_sep _ _ _).trans (congrArg (BI.sep _) (deal2_last Φ))

theorem inT_eq : bigSep Finset.univ (inT m d) = iprop((bigSep Finset.univ fun c => xOwn m d (iS d c)) ∗ bigSep Finset.univ (vfIdle d)) := first2 _ _
theorem gT_eq : bigSep Finset.univ (gT m d) = iprop((bigSep Finset.univ fun c => xOwn m d (iF d c)) ∗ bigSep Finset.univ (gfIdle d)) := first2 _ _
theorem gbT_eq : bigSep Finset.univ (gbT (F := F) d) = iprop((bigSep Finset.univ fun c => hold d (oC (jF d c))) ∗ bigSep Finset.univ (gbIdle d)) := first2 _ _
theorem inD_eq : bigSep Finset.univ (inD m d) = iprop((bigSep Finset.univ fun c => xOwn m d (iS d c)) ∗ bigSep Finset.univ (vfIdle d)) := last2 _ _
theorem gD_eq : bigSep Finset.univ (gD m d) = iprop((bigSep Finset.univ fun c => xOwn m d (iF d c)) ∗ bigSep Finset.univ (gfIdle d)) := last2 _ _
theorem gbD_eq : bigSep Finset.univ (gbD m d) = iprop((bigSep Finset.univ fun c => oOwn m d (jF d c)) ∗ bigSep Finset.univ (gbIdle d)) := last2 _ _

/-- The sent half before the handshake. -/
theorem vbPre_eq : bigSep Finset.univ (vbPre (F := F) d)
    = iprop((bigSep Finset.univ fun c => hold d (oC (jS d c)))
      ∗ ((bigSep Finset.univ fun c => dutyTok ER (xc d 0 c) 0 false) ∗ (bigSep Finset.univ fun c => dutyTok ER (xc (ynbr d) 1 c) 0 false))
      ∗ (bigSep Finset.univ fun c => atPos ER (xc d 0 c) 0 ∅ 0) ∗ bigSep Finset.univ (vbIdle d)) := by
  refine (bigSep_sep _ _ _).trans (congrArg (BI.sep _) ?_)
  refine (bigSep_sep _ _ _).trans (congrArg₂ BI.sep (bigSep_sep _ _ _) ?_)
  exact (bigSep_sep _ _ _).trans (congrArg (BI.sep _) (deal4_first _))
theorem xFl_eq (a : Fin 4) : bigSep Finset.univ (xFl (F := F) d a)
    = iprop((bigSep Finset.univ fun c => cred (tallyAt (xc d a c) () N)) ∗ bigSep Finset.univ fun c => atPos ER (xc d a c) 0 ∅ 0) :=
  bigSep_sep _ _ _
theorem fwPre_eq : bigSep Finset.univ (fwPre (F := F) d)
    = iprop(bigSep Finset.univ (xFl d 1)
      ∗ ((bigSep Finset.univ fun c => dutyTok ER (xc d 2 c) 0 false) ∗ (bigSep Finset.univ fun c => dutyTok ER (xc (partner d) 3 c) 0 false))
      ∗ bigSep Finset.univ fun c => atPos ER (xc d 2 c) 0 ∅ 0) := by
  refine (bigSep_sep _ _ _).trans (congrArg (BI.sep _) ?_)
  exact (bigSep_sep _ _ _).trans (congrArg₂ BI.sep (bigSep_sep _ _ _) rfl)

/-- The cells of one kind at zero. -/
def xZero (a : Fin 4) : sProp 𝕄 := bigSep Finset.univ fun c => semVal (xc d a c) 0

theorem vbD_eq : bigSep Finset.univ (vbD m d)
    = iprop((bigSep Finset.univ fun c => oOwn m d (jS d c)) ∗ xZero d 0 ∗ bigSep Finset.univ (vbIdle d)) := by
  refine (bigSep_sep _ _ _).trans (congrArg (BI.sep _) ?_)
  exact (bigSep_sep _ _ _).trans (congrArg (BI.sep _) (deal4_last _))
theorem fwD_eq : bigSep Finset.univ (fwD m d)
    = iprop(xZero d 1 ∗ (bigSep Finset.univ fun c => oOwn m d (jR d c)) ∗ xZero d 2) := by
  refine (bigSep_sep _ _ _).trans (congrArg (BI.sep _) ?_)
  exact bigSep_sep _ _ _
theorem frD_eq : bigSep Finset.univ (frD m d) = iprop((bigSep Finset.univ fun c => oOwn m d (jW d c)) ∗ xZero d 3) :=
  bigSep_sep _ _ _

/-! ## What a device is dealt -/

/-- The tokens of the duties device `d` pays. -/
def payToks : sProp 𝕄 :=
  iprop((dutyTok ER (barC (ynbr d)) 0 false ∗ dutyTok ER (barC (partner d)) 0 true)
    ∗ (bigSep Finset.univ fun c => dutyTok ER (xc d 0 c) 0 false) ∗ (bigSep Finset.univ fun c => dutyTok ER (xc (ynbr d) 1 c) 0 false)
    ∗ (bigSep Finset.univ fun c => dutyTok ER (xc d 2 c) 0 false) ∗ (bigSep Finset.univ fun c => dutyTok ER (xc (partner d) 3 c) 0 false))
/-- Its positions in its own cells. -/
def ownPos : sProp 𝕄 :=
  iprop(atPos ER (barC d) 0 ∅ 0
    ∗ (bigSep Finset.univ fun c => atPos ER (xc d 0 c) 0 ∅ 0) ∗ (bigSep Finset.univ fun c => atPos ER (xc d 1 c) 0 ∅ 0)
    ∗ (bigSep Finset.univ fun c => atPos ER (xc d 2 c) 0 ∅ 0) ∗ (bigSep Finset.univ fun c => atPos ER (xc d 3 c) 0 ∅ 0))
/-- The credits of what is to arrive. -/
def ownCreds : sProp 𝕄 :=
  iprop(cred (tallyAt (barC d) () 2) ∗ (bigSep Finset.univ fun c => cred (tallyAt (xc d 1 c) () N))
    ∗ (bigSep Finset.univ fun c => cred (tallyAt (xc d 3 c) () N)))
/-- Its buffers as the launch finds them; -/
def arrays0 : sProp 𝕄 :=
  iprop(((d : Thread nD τ).loc main_arg0 ↦{fullShare} m ((d : Thread nD τ).loc main_arg0))
    ∗ ((d : Thread nD τ).loc main_v1 ↦{fullShare} m ((d : Thread nD τ).loc main_v1)))
/-- as it leaves them. -/
def arrays1 : sProp 𝕄 :=
  iprop(((d : Thread nD τ).loc main_arg0 ↦{fullShare} m ((d : Thread nD τ).loc main_arg0))
    ∗ ((d : Thread nD τ).loc main_v1 ↦{fullShare} outF m d))
/-- The buffers of the call's own. -/
def scratch : sProp 𝕄 := iprop(some0 (F := F) d cc0_scratch0 ∗ some0 (F := F) d cc0_scratch1 ∗ some0 (F := F) d cc0_scratch2 ∗ some0 (F := F) d cc0_scratch3)

/-- All of it is what the body starts with. -/
theorem start_of :
    iprop(payToks d ∗ ownPos d ∗ ownCreds d ∗ locals0 d ∗ arrays0 m d ∗ scratch d ∗ debt d (O₀ d)) ⊢ Start m d := by
  unfold Start payToks ownPos ownCreds arrays0 scratch giveY giveP
  rw [inT_eq, gT_eq, vbPre_eq, gbT_eq, fwPre_eq, xFl_eq, xFl_eq, vfIdle_eq, gfIdle_eq, vbIdle_eq, gbIdle_eq, locals0_eq]
  iintro ⟨⟨⟨HtY, HtP⟩, Ht0, Ht1, Ht2, Ht3⟩, ⟨HaB, Ha0, Ha1, Ha2, Ha3⟩, ⟨HcB, Hc1, Hc3⟩, ⟨⟨Hz4, Hz5⟩, Hz6, Hz7⟩, ⟨Hx, Ho⟩, ⟨Hs0, Hs1, Hs2, Hs3⟩, HO⟩
  ihave Hx := (Entails.of_eq ((x_split m d).trans (by_half d (fun i => xOwn m d i)))) $$ Hx
  icases Hx with ⟨HxS, HxF⟩
  ihave Ho := ((o_split d _).trans (Entails.of_eq (by_quarter d (fun j => hold d (oC j))))) $$ Ho
  icases Ho with ⟨HoS, HoF, HoR, HoW⟩
  ihave Hs0 := (vf_split d) $$ Hs0
  ihave Hs1 := (vb_split d) $$ Hs1
  ihave Hs2 := (gf_split d) $$ Hs2
  ihave Hs3 := (gb_split d) $$ Hs3
  isplitl [HxS Hz4 Hs0]
  · isplitl [HxS]; · iexact HxS
    isplitl [Hz4]; · iexact Hz4
    iexact Hs0
  isplitl [HxF Hz6 Hs2]
  · isplitl [HxF]; · iexact HxF
    isplitl [Hz6]; · iexact Hz6
    iexact Hs2
  isplitl [HoS Ht0 Ht1 Ha0 Hz5 Hs1]
  · isplitl [HoS]; · iexact HoS
    isplitl [Ht0 Ht1]
    · isplitl [Ht0]; · iexact Ht0
      iexact Ht1
    isplitl [Ha0]; · iexact Ha0
    isplitl [Hz5]; · iexact Hz5
    iexact Hs1
  isplitl [HoF Hz7 Hs3]
  · isplitl [HoF]; · iexact HoF
    isplitl [Hz7]; · iexact Hz7
    iexact Hs3
  isplitl [Hc1 Ha1 Ht2 Ht3 Ha2]
  · isplitl [Hc1 Ha1]
    · isplitl [Hc1]; · iexact Hc1
      iexact Ha1
    isplitl [Ht2 Ht3]
    · isplitl [Ht2]; · iexact Ht2
      iexact Ht3
    iexact Ha2
  isplitl [Hc3 Ha3]
  · isplitl [Hc3]; · iexact Hc3
    iexact Ha3
  isplitl [HoR]; · iexact HoR
  isplitl [HoW]; · iexact HoW
  isplitl [HtY]; · iexact HtY
  isplitl [HtP]; · iexact HtP
  isplitl [HcB]; · iexact HcB
  isplitl [HaB]; · iexact HaB
  iexact HO

/-- What the body ends with is every buffer whole again, the result filled, every semaphore at zero. -/
theorem done_of :
    Done m d ⊢ iprop(arrays1 m d ∗ scratch d ∗ locals0 d ∗ (xZero d 0 ∗ xZero d 1 ∗ xZero d 2 ∗ xZero d 3) ∗ debt d 0) := by
  unfold Done arrays1 scratch
  rw [inD_eq, gD_eq, vbD_eq, gbD_eq, fwD_eq, frD_eq, vfIdle_eq, gfIdle_eq, vbIdle_eq, gbIdle_eq, locals0_eq]
  iintro ⟨⟨HxS, Hz4, Hs0⟩, ⟨HxF, Hz6, Hs2⟩, ⟨HoS, Hx0, Hz5, Hs1⟩, ⟨HoF, Hz7, Hs3⟩, ⟨Hx1, HoR, Hx2⟩, ⟨HoW, Hx3⟩, HO⟩
  isplitl [HxS HxF HoS HoF HoR HoW]
  · isplitl [HxS HxF]
    · iapply (Entails.of_eq ((x_split m d).trans (by_half d (fun i => xOwn m d i))).symm)
      isplitl [HxS]; · iexact HxS
      iexact HxF
    · iapply (o_join m d)
      iapply (Entails.of_eq (by_quarter d (fun j => oOwn m d j)).symm)
      isplitl [HoS]; · iexact HoS
      isplitl [HoF]; · iexact HoF
      isplitl [HoR]; · iexact HoR
      iexact HoW
  isplitl [Hs0 Hs1 Hs2 Hs3]
  · isplitl [Hs0]; · iapply (vf_join m d); iexact Hs0
    isplitl [Hs1]; · iapply (vb_join m d); iexact Hs1
    isplitl [Hs2]; · iapply (gf_join m d); iexact Hs2
    iapply (gb_join m d); iexact Hs3
  isplitl [Hz4 Hz5 Hz6 Hz7]
  · isplitl [Hz4 Hz5]
    · isplitl [Hz4]; · iexact Hz4
      iexact Hz5
    isplitl [Hz6]; · iexact Hz6
    iexact Hz7
  isplitl [Hx0 Hx1 Hx2 Hx3]
  · isplitl [Hx0]; · iexact Hx0
    isplitl [Hx1]; · iexact Hx1
    isplitl [Hx2]; · iexact Hx2
    iexact Hx3
  iexact HO

end Cert.KernelIdeal.Ring

end
-- ==== Proof.KernelIdealGhost.lean ====
/-
The launch's set-up: every device's cells become invariants, their tokens go to the devices that pay the duties, and
what is owed a device is its credit.
-/
module

public import proofs.«01_k».proof.Proof.KernelIdealEnds
public import proofs.«01_k».proof.Proof.Gen.KernelIdeal.Launch
public import Idealize.ShloMosaic.Lib.Pipeline.Launch
public import Idealize.ShloMosaic.Lib.Pipeline.Kit

@[expose] public section

noncomputable section

namespace Cert.KernelIdeal.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

local notation "𝕄" => MT nD τ sig Unit (Elt F) ℕ UU ℕ

variable (m : (ℓ : Loc nD τ sig) → Buf (Elt F) ℓ)

variable (d : Dev nD)

/-! ## The cells and their tokens -/

theorem kcell_injective : Function.Injective (kcell : Dev nD × Kd → GSem nD τ sig) := by
  rintro ⟨c, k⟩ ⟨c', k'⟩ h
  have h1 : c = c' := congrArg (fun g : GSem nD τ sig => g.1.1) h
  have h2 : csem k = csem k' := congrArg Prod.snd h
  have h3 : k = k' := by
    rcases k with _ | ⟨a, i⟩ <;> rcases k' with _ | ⟨a', i'⟩
    · rfl
    · cases h2
    · cases h2
    · have h4 : xs a i = xs a' i' := SemLoc.dma.inj h2
      rw [← kindOf_xs a i, ← kindOf_xs a' i', h4]
  rw [h1, h3]

/-- Every cell of the schedule. -/
def allCells : Finset (GSem nD τ sig) := Finset.univ.map ⟨kcell, kcell_injective⟩

/-- The duties of a device's cells: two of its barrier's, one of each copy's. -/
abbrev Tk : Type := Bool ⊕ (Fin 4 × Fin 16)
abbrev tokOf (dj : Dev nD × Tk) : GSem nD τ sig × ℕ × Bool := match dj.2 with
  | .inl b => (kcell (dj.1, none), 0, b)
  | .inr ak => (kcell (dj.1, some ak), 0, false)
theorem tokOf_injective : Function.Injective tokOf := by
  rintro ⟨c, j⟩ ⟨c', j'⟩ h
  rcases j with b | ak <;> rcases j' with b' | ak'
  · have h1 := kcell_injective (congrArg (fun x : GSem nD τ sig × ℕ × Bool => x.1) h)
    have h2 : b = b' := congrArg (fun x : GSem nD τ sig × ℕ × Bool => x.2.2) h
    rw [show c = c' from congrArg Prod.fst h1, h2]
  · have h1 := kcell_injective (congrArg (fun x : GSem nD τ sig × ℕ × Bool => x.1) h)
    cases (congrArg Prod.snd h1 : (none : Kd) = some ak')
  · have h1 := kcell_injective (congrArg (fun x : GSem nD τ sig × ℕ × Bool => x.1) h)
    cases (congrArg Prod.snd h1 : (some ak : Kd) = none)
  · have h1 := kcell_injective (congrArg (fun x : GSem nD τ sig × ℕ × Bool => x.1) h)
    rw [show c = c' from congrArg Prod.fst h1, show ak = ak' from Option.some.inj (congrArg Prod.snd h1 : (some ak : Kd) = some ak')]
def allToks : Finset (GSem nD τ sig × ℕ × Bool) := Finset.univ.map ⟨tokOf, tokOf_injective⟩

/-- The launch's element: the pipeline's copy of the rounds, the cells', no counter. -/
def u₀ : UU :=
  (initOf (Pipeline.cells cfgs cellOf_inj) (Pipeline.launchToks cfgs cellOf_inj), (initOf allCells allToks, 1))

/-- Over a device's cells: the barrier's, then each kind of copy's. -/
theorem bigSep_kd (Φ : Kd → sProp 𝕄) : bigSep Finset.univ Φ
    = iprop(Φ none ∗ (bigSep Finset.univ fun c => Φ (some (0, c))) ∗ (bigSep Finset.univ fun c => Φ (some (1, c)))
      ∗ (bigSep Finset.univ fun c => Φ (some (2, c))) ∗ (bigSep Finset.univ fun c => Φ (some (3, c)))) := by
  rw [bigSep_univ_at Φ none, show (Finset.univ : Finset Kd).erase none = (Finset.univ : Finset (Fin 4 × Fin 16)).map Function.Embedding.some by decide,
    bigSep_map, bigSep_univ_prod, bigSep_fin4]
  rfl

/-! ## What the launch deals a device -/

/-- The tokens of one kind of copy's cells of device `d`; -/
def xToks (a : Fin 4) : sProp 𝕄 := bigSep Finset.univ fun c => dutyTok ER (xc d a c) 0 false
/-- of all its cells. -/
def toks : sProp 𝕄 :=
  iprop((dutyTok ER (barC d) 0 false ∗ dutyTok ER (barC d) 0 true) ∗ xToks d 0 ∗ xToks d 1 ∗ xToks d 2 ∗ xToks d 3)

/-- A device's cells at their start, its positions in them, their tokens. -/
def G : sProp 𝕄 :=
  iprop((bigSep Finset.univ fun k : Kd => roundState ER (Rd m) (kcell (d, k)) 0)
    ∗ ((bigSep Finset.univ fun k : Kd => atPos ER (kcell (d, k)) 0 ∅ 0) ∗ (bigSep Finset.univ fun k : Kd => reached ER (kcell (d, k)) 0)) ∗ toks d)

theorem over_cells (Φ : GSem nD τ sig → sProp 𝕄) :
    bigSep allCells Φ = bigSep Finset.univ fun c : Dev nD => bigSep Finset.univ fun k : Kd => Φ (kcell (c, k)) := by
  unfold allCells; rw [bigSep_map, bigSep_univ_prod]; rfl

theorem over_toks : bigSep allToks (fun x => (dutyTok ER x.1 x.2.1 x.2.2 : sProp 𝕄)) = bigSep Finset.univ fun c : Dev nD => toks c := by
  unfold allToks; rw [bigSep_map, bigSep_univ_prod]
  refine bigSep_congr fun c _ => ?_
  rw [bigSep_univ_sum, bigSep_univ_eq_bigSepL [false, true] (by decide) (by decide), bigSepL_cons_cons, bigSepL_singleton,
    bigSep_univ_prod, bigSep_fin4]
  rfl

/-- The launch's element deals every device its part. -/
theorem fund_all : BI.own (ER (initOf allCells allToks)) ⊢ (|==> bigSep Finset.univ (G m) : sProp 𝕄) := by
  iintro HX
  imod (Rounds.fund ER (Rd m) allCells allToks) $$ HX with ⟨Hst, Hr, Hat, Htok⟩
  imodintro
  ihave Hst' := (Entails.of_eq (over_cells fun g => roundState ER (Rd m) g 0)) $$ Hst
  ihave Hat' := (Entails.of_eq (over_cells fun g => atPos ER g 0 ∅ 0)) $$ Hat
  ihave Hr' := (Entails.of_eq (over_cells fun g => reached ER g 0)) $$ Hr
  ihave Htok' := (Entails.of_eq over_toks) $$ Htok
  unfold G; simp only [bigSep_sep']
  isplitl [Hst']; · iexact Hst'
  isplitl [Hat' Hr']
  · isplitl [Hat'] <;> iassumption
  iexact Htok'

/-! ## The call's own semaphores -/

/-- The call's own semaphores: the local copies', then the remote copies'. -/
abbrev osem : LS ⊕ (Fin 4 × Fin 16) → SemLoc sig
  | .inl s => lsem s
  | .inr ak => .dma (xs ak.1 ak.2)
theorem ownSemFacts : Pipeline.OwnSemFacts cfg0.spec osem := by decide +kernel

theorem ownSems0_eq : (Pipeline.ownSems0 (Ix := Unit) (Name := ℕ) (U := UU) (Lvl := ℕ) (Val := Elt F) (τ := τ) osem d : sProp 𝕄)
    = iprop(locals0 d ∗ xZero d 0 ∗ xZero d 1 ∗ xZero d 2 ∗ xZero d 3) := by
  unfold Pipeline.ownSems0
  rw [bigSep_univ_sum, bigSep_univ_prod, bigSep_fin4]
  rfl
/-- The barrier semaphore is the one semaphore that is not the call's own. -/
theorem unscopedSems0_eq : (unscopedSems0 d : sProp 𝕄) = semVal (barC d) 0 := by
  unfold unscopedSems0; rw [bigSep_eq_bigSepL_of_eq [SemLoc.reg barS] (by decide) (by decide)]; rfl

theorem cells_zero : bigSep Finset.univ (fun k : Kd => (semVal (kcell (d, k)) 0 : sProp 𝕄))
    = iprop(semVal (barC d) 0 ∗ xZero d 0 ∗ xZero d 1 ∗ xZero d 2 ∗ xZero d 3) := bigSep_kd _

theorem cell_alloc (k : Kd) : iprop(semVal (kcell (d, k)) 0 ∗ roundState ER (Rd m) (kcell (d, k)) 0)
    ⊢ (|={Set.univ}=> iprop(∃ κ : ℕ, cellInv ER (Rd m) κ (kcell (d, k))) : sProp 𝕄) :=
  (Rounds.body_intro ER (Rd m) (kcell (d, k))).trans inv_alloc

/-- A device's cells at their start, with their counters at zero, become invariants. -/
theorem cells_alloc :
    iprop((bigSep Finset.univ fun k : Kd => semVal (kcell (d, k)) 0) ∗ bigSep Finset.univ fun k : Kd => roundState ER (Rd m) (kcell (d, k)) 0)
      ⊢ (|={Set.univ}=> bigSep Finset.univ fun k : Kd => iprop(∃ κ : ℕ, cellInv ER (Rd m) κ (kcell (d, k))) : sProp 𝕄) := by
  rw [← bigSep_sep']
  exact (bigSep_mono fun k _ => cell_alloc m d k).trans (bigSep_fupd _ _)

/-- What each device has once its cells are invariants. -/
def midway : sProp 𝕄 :=
  iprop((bigSep Finset.univ fun k : Kd => iprop(∃ κ : ℕ, cellInv ER (Rd m) κ (kcell (d, k))))
    ∗ (bigSep Finset.univ fun k : Kd => reached ER (kcell (d, k)) 0)
    ∗ (bigSep Finset.univ fun k : Kd => atPos ER (kcell (d, k)) 0 ∅ 0) ∗ toks d ∗ locals0 d)

theorem core_alloc :
    iprop(Pipeline.ownSems0 (Ix := Unit) (Name := ℕ) (U := UU) (Lvl := ℕ) (Val := Elt F) (τ := τ) osem d ∗ unscopedSems0 d ∗ G m d)
      ⊢ |={Set.univ}=> midway m d := by
  rw [ownSems0_eq, unscopedSems0_eq]
  unfold G midway
  iintro ⟨⟨Hl, Hx⟩, Hb, Hst, ⟨Hat, Hr⟩, Htok⟩
  imod (cells_alloc m d) $$ [Hx Hb Hst] with Hinv
  · isplitl [Hx Hb]
    · iapply (Entails.of_eq (cells_zero (F := F) d).symm)
      isplitl [Hb]; · iexact Hb
      iexact Hx
    iexact Hst
  imodintro
  isplitl [Hinv]; · iexact Hinv
  isplitl [Hr]; · iexact Hr
  isplitl [Hat]; · iexact Hat
  isplitl [Htok]; · iexact Htok
  iexact Hl

/-! ## The devices' parts together -/

/-- What stays with a device: its local semaphores, its positions, the tokens of the duties it pays. -/
def linear : sProp 𝕄 := iprop(locals0 d ∗ ownPos d ∗ payToks d)
/-- With the invariants of all cells. -/
def G' : sProp 𝕄 := iprop(∃ K, records m K ∗ linear d)

theorem ghost_intro (K : Dev nD × Kd → ℕ) : iprop(records m K ∗ linear d) ⊢ G' m d := by
  unfold G'; iintro H; iexists K; iexact H

/-- Every token goes to the device that pays its duty: the barrier's and the arrivals' to the device's neighbour across y
    or its partner. -/
theorem toks_around : (bigSep Finset.univ fun c : Dev nD => (toks c : sProp 𝕄)) ⊢ bigSep Finset.univ fun c : Dev nD => payToks c := by
  show _ ⊢ bigSep Finset.univ fun c : Dev nD => iprop((dutyTok ER (barC (acrossY c)) 0 false ∗ dutyTok ER (barC (acrossZ c)) 0 true)
    ∗ xToks c 0 ∗ xToks (acrossY c) 1 ∗ xToks c 2 ∗ xToks (acrossZ c) 3)
  unfold toks
  simp only [bigSep_sep']
  rw [bigSep_univ_equiv acrossY (fun c : Dev nD => (dutyTok ER (barC c) 0 false : sProp 𝕄)),
    bigSep_univ_equiv acrossZ (fun c : Dev nD => (dutyTok ER (barC c) 0 true : sProp 𝕄)),
    bigSep_univ_equiv acrossY (fun c : Dev nD => (xToks c 1 : sProp 𝕄)),
    bigSep_univ_equiv acrossZ (fun c : Dev nD => (xToks c 3 : sProp 𝕄))]

/-- What every device holds for itself, gathered from what it has once its cells are invariants. -/
theorem linear_around :
    iprop((bigSep Finset.univ fun c : Dev nD => bigSep Finset.univ fun k : Kd => atPos ER (kcell (c, k)) 0 ∅ 0)
      ∗ (bigSep Finset.univ fun c : Dev nD => toks c) ∗ bigSep Finset.univ fun c : Dev nD => locals0 c) ⊢ (bigSep Finset.univ linear : sProp 𝕄) := by
  unfold linear
  rw [bigSep_congr (s := Finset.univ) (fun (c : Dev nD) _ => (bigSep_kd (F := F) (fun k : Kd => atPos ER (kcell (c, k)) 0 ∅ 0)))]
  show _ ⊢ bigSep Finset.univ fun c : Dev nD => iprop(locals0 c ∗ ownPos c ∗ payToks c)
  rw [bigSep_sep' Finset.univ (fun c : Dev nD => (locals0 c : sProp 𝕄)) (fun c => iprop(ownPos c ∗ payToks c)),
    bigSep_sep' Finset.univ (fun c : Dev nD => (ownPos c : sProp 𝕄)) payToks]
  iintro ⟨Hp, Ht, Hl⟩
  ihave Ht := (toks_around (F := F)) $$ Ht
  isplitl [Hl]; · iexact Hl
  isplitl [Hp]; · iexact Hp
  iexact Ht

/-- Something persistent goes to every index. -/
theorem to_each {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup : (bigSep Finset.univ (midway m) : sProp 𝕄) ⊢ bigSep Finset.univ (G' m) := by
  unfold midway
  rw [bigSep_sep', bigSep_sep', bigSep_sep', bigSep_sep', ← bigSep_univ_prod (fun ck : Dev nD × Kd => iprop(∃ κ : ℕ, cellInv ER (Rd m) κ (kcell ck))),
    ← bigSep_univ_prod (fun ck : Dev nD × Kd => (reached ER (kcell ck) 0 : sProp 𝕄))]
  iintro ⟨HI, #HR, Hlin⟩
  ihave HK := (BI.bigSep_exists_pi Finset.univ (fun (ck : Dev nD × Kd) (κ : ℕ) => (cellInv ER (Rd m) κ (kcell ck) : sProp 𝕄))) $$ HI
  icases HK with ⟨%K, #HI⟩
  ihave Hlin := (linear_around (F := F)) $$ Hlin
  iapply (to_each (R := records m K) fun c _ => ghost_intro m c K)
  isplitr
  · unfold records; isplitl; · iexact HI
    iexact HR
  iexact Hlin

/-- The devices' semaphores and parts of the launch's element together become every device's part. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The launch's credit -/

theorem over_Ico (Φ : Fin 16 → sProp 𝕄) : bigSep (Finset.Ico 0 16) (fun r => Φ (fk r)) = bigSep Finset.univ Φ := by
  rw [show Finset.Ico 0 16 = (Finset.univ : Finset (Fin 16)).map Fin.valEmbedding by decide, bigSep_map]
  exact bigSep_congr fun k _ => congrArg Φ (fk_val k)

/-- What the neighbours across y owe a device is its arrivals' credit. -/
theorem creds_y : (Pipeline.launchCred (fun e => Oy e 0) d : sProp 𝕄) ⊢ bigSep Finset.univ fun c => cred (tallyAt (xc d 1 c) () N) := by
  unfold Oy
  rw [Pipeline.launchCred_sum]
  refine (bigSep_mono fun r _ => Pipeline.launchCred_tallyAt (.dma (xs 1 (fk r))) ynbr ynbr ynbr_ynbr ynbr_ynbr () N d).trans ?_
  exact Entails.of_eq (over_Ico fun c => cred (tallyAt (xc d 1 c) () N))
/-- What the partners owe it likewise. -/
theorem creds_f : (Pipeline.launchCred (fun e => Of e 0) d : sProp 𝕄) ⊢ bigSep Finset.univ fun c => cred (tallyAt (xc d 3 c) () N) := by
  unfold Of
  rw [Pipeline.launchCred_sum]
  refine (bigSep_mono fun r _ => Pipeline.launchCred_tallyAt (.dma (xs 3 (fk r))) partner partner partner_partner partner_partner () N d).trans ?_
  exact Entails.of_eq (over_Ico fun c => cred (tallyAt (xc d 3 c) () N))

/-- The credit of everything owed to a device. -/
theorem creds : (Pipeline.launchCred O₀ d : sProp 𝕄) ⊢ ownCreds d := by
  rw [show (O₀ : Dev nD → CellTallies nD τ sig Unit)
      = fun e => (fun e => (fun e => (fun e => Oy e 0) e + (fun e => Of e 0) e) e + (fun e => tallyAt (barC (partner e)) () 1) e) e
          + (fun e => tallyAt (barC (ynbr e)) () 1) e from rfl,
    Pipeline.launchCred_add, Pipeline.launchCred_add, Pipeline.launchCred_add]
  unfold ownCreds
  iintro ⟨⟨⟨Hy, Hf⟩, Hp⟩, Hn⟩
  ihave Hy := (creds_y (F := F) d) $$ Hy
  ihave Hf := (creds_f (F := F) d) $$ Hf
  ihave Hp := (Pipeline.launchCred_tallyAt (SemLoc.reg barS) partner partner partner_partner partner_partner () 1 d) $$ Hp
  ihave Hn := (Pipeline.launchCred_tallyAt (SemLoc.reg barS) ynbr ynbr ynbr_ynbr ynbr_ynbr () 1 d) $$ Hn
  isplitl [Hp Hn]
  · rw [show (tallyAt (barC d) () 2 : CellTallies nD τ sig Unit) = tallyAt (barC d) () 1 + tallyAt (barC d) () 1 from (tallyAt_add (barC d) () 1 1).symm]
    iapply (cred_add _ _).2
    isplitl [Hp]; · iexact Hp
    iexact Hn
  isplitl [Hy]; · iexact Hy
  iexact Hf

end Cert.KernelIdeal.Ring

end
-- ==== Proof.KernelIdealLaunch.lean ====
/-
Every device's run of the program.
-/
module

public import proofs.«01_k».proof.Proof.KernelIdealGhost
public import Idealize.ShloMosaic.Lib.Pipeline.CollectiveSegs

@[expose] public section

noncomputable section

namespace Cert.KernelIdeal.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

local notation "𝕄" => MT nD τ sig Unit (Elt F) ℕ UU ℕ

variable (m : (ℓ : Loc nD τ sig) → Buf (Elt F) ℓ)

open Pipeline (Dat BodyObligation)

/-! ## What the body is run between -/

/-- What a device starts from. -/
def start (d : Dev nD) : sProp 𝕄 := iprop(G' m d ∗ ownCreds d ∗ levAts L lv ∗ arrays0 m d)
/-- Before the body: that and the call's buffers; -/
def Φ₀ (d : Dev nD) : sProp 𝕄 := iprop(start m d ∗ scratch d)
/-- after it: the result filled, every semaphore at zero. -/
def Φ₁ (d : Dev nD) : sProp 𝕄 :=
  iprop(arrays1 m d ∗ scratch d ∗ locals0 d ∗ (xZero d 0 ∗ xZero d 1 ∗ xZero d 2 ∗ xZero d 3) ∗ semVal (barC d) 0)

def dats (_ : Fin 1) (d : Dev nD) : Dat τ (Elt F) Unit ℕ UU ℕ cfg0 d where
  A w := w.elim0
  after w _ := w.elim0
  Φ t := match t with
    | ⟨0, _⟩ => Φ₀ m d
    | ⟨_ + 1, _⟩ => Φ₁ m d
  q _ := fullShare
  owed t := match t with
    | ⟨0, _⟩ => O₀ d
    | ⟨_ + 1, _⟩ => 0

/-- The device's id is the device; -/
theorem wp_id (d : Dev nD) (Q : PUnit.{1} → sProp (MT nD τ sig Unit (Elt F) ℕ UU ℕ))
    (k : Dev nD → Prog (TpuEff nD τ sig (Elt F) Λ₀ .tc) PUnit) : wpd d Q (k d) ⊢ wpd d Q (.op .deviceId k) :=
  Entails.of_eq (wp_deviceId 𝒱₀ (d : Thread nD τ) none Set.univ).symm
/-- a body that ends leaves what it has. -/
theorem wp_end (d : Dev nD) (P : sProp 𝕄) : P ⊢ wpd d (fun _ => P) (.ret ⟨⟩) := fupd_intro

/-- What the body is entered with; -/
def bodyPre (d : Dev nD) : sProp 𝕄 := iprop(Φ₀ m d ∗ (dats m 0 d).owesAt () t0_0.castSucc ∗ emp)
/-- what it is left with. -/
def bodyPost (d : Dev nD) : sProp 𝕄 := iprop(Φ₁ m d ∗ (dats m 0 d).owesAt () t0_0.succ ∗ emp)

theorem owes_in (d : Dev nD) : ((dats m 0 d).owesAt () t0_0.castSucc : sProp 𝕄) ⊢ debt d (O₀ d) := by
  unfold Dat.owesAt Pipeline.owesWithin debt
  iintro ⟨%W, %hW, HO⟩
  iexists W; iexact HO
theorem owes_out (d : Dev nD) : (debt d 0 : sProp 𝕄) ⊢ (dats m 0 d).owesAt () t0_0.succ := by
  unfold Dat.owesAt Pipeline.owesWithin debt
  iintro ⟨%W, HO⟩
  iexists W
  isplitr
  · ipureintro; exact fun _ _ => Or.inl trivial
  iexact HO

/-- The whole body of device `d`. -/
theorem wp_all (K : Dev nD × Kd → ℕ) (d : Dev nD) :
    iprop(records m K ∗ linear d ∗ ownCreds d ∗ levAts L lv ∗ arrays0 m d ∗ scratch d ∗ debt d (O₀ d))
      ⊢ wpd d (fun _ => bodyPost m d) (bodyAt0 (F := F) t0_0) := by
  rw [body_eq]
  unfold linear
  iintro ⟨#HR, ⟨Hl, Hp, Ht⟩, Hc, #HL, Ha, Hs, HO⟩
  iapply (wp_id d (fun _ => bodyPost m d) (fun d => run d (.ret ⟨⟩) ops))
  iapply (wp_body m K d (fun _ => bodyPost m d) (.ret ⟨⟩)) $$ [Hl Hp Ht Hc Ha Hs HO]
  · isplitr; · iexact HR
    isplitr; · iexact HL
    iapply (start_of m d)
    isplitl [Ht]; · iexact Ht
    isplitl [Hp]; · iexact Hp
    isplitl [Hc]; · iexact Hc
    isplitl [Hl]; · iexact Hl
    isplitl [Ha]; · iexact Ha
    isplitl [Hs]; · iexact Hs
    iexact HO
  iintro ⟨HD, HB⟩
  iapply (wp_end d)
  ihave HD := (done_of m d) $$ HD
  icases HD with ⟨Ha, Hs, Hl, Hx, HO⟩
  unfold bodyPost Φ₁
  isplitr [HO]
  · isplitl [Ha]; · iexact Ha
    isplitl [Hs]; · iexact Hs
    isplitl [Hl]; · iexact Hl
    isplitl [Hx]; · iexact Hx
    iexact HB
  isplitl [HO]
  · iapply (owes_out m d); iexact HO
  iempintro

theorem body_step (d : Dev nD) : bodyPre m d ⊢ wpd d (fun _ => bodyPost m d) (bodyAt0 (F := F) t0_0) := by
  unfold bodyPre Φ₀ start G'
  iintro ⟨⟨⟨⟨%K, #HR, Hl⟩, Hc, HL, Ha⟩, Hs⟩, HO, -⟩
  ihave HO := (owes_in m d) $$ HO
  iapply (wp_all m K d)
  isplitr; · iexact HR
  isplitl [Hl]; · iexact Hl
  isplitl [Hc]; · iexact Hc
  isplitl [HL]; · iexact HL
  isplitl [Ha]; · iexact Ha
  isplitl [Hs]; · iexact Hs
  iexact HO

set_option maxRecDepth 65536 in
theorem body_obligation (d : Dev nD) : BodyObligation (dats (F := F) m 0 d) (defs₀ (F := F)) 𝒱₀ () Set.univ := fun t => by
  rw [fin_N0 t, show (Finset.univ : Finset (Fin cfg0.W)) = ∅ from rfl, BI.bigSep_empty, BI.bigSep_empty]
  exact body_step m d

/-! ## The launch's side conditions -/

theorem start_intro (ρ : Dev nD → PrngReg) (d : Dev nD) :
    iprop(Pipeline.unscopedRestP Pipeline.Prefetch.none cfg0.spec d (fun b => m ((d : Thread nD τ).loc b)) ∗ levAts L lv
        ∗ Pipeline.launchCred O₀ d ∗ prngReg d (ρ d) ∗ G' m d)
      ⊢ (|={Set.univ}=> iprop(start m d ∗ emp) : sProp 𝕄) := by
  rw [Pipeline.unscopedRestP_none, unscopedRest0_eq]
  iintro ⟨Ha, HL, Hc, -, HG⟩
  ihave Hc := (creds (F := F) d) $$ Hc
  imodintro
  unfold start arrays0
  isplitl
  · isplitl [HG]; · iexact HG
    isplitl [Hc]; · iexact Hc
    isplitl [HL]; · iexact HL
    iexact Ha
  · iempintro

theorem phi0_intro (d : Dev nD) :
    iprop(start m d ∗ Pipeline.prefHeld Pipeline.Prefetch.none d (fun _ => fullShare.right) (fun k => k.elim0) ∗ Pipeline.scopedRest cfg0.spec d)
      ⊢ (dats m 0 d).Φ 0 := by
  rw [show (dats m 0 d).Φ 0 = Φ₀ m d from rfl, scopedRest0_eq]
  unfold Φ₀ scratch some0
  iintro ⟨Hs, -, Hr⟩
  isplitl [Hs]; · iexact Hs
  iexact Hr

/-- What is read off at the end. -/
def finish (d : Dev nD) : sProp 𝕄 := iprop(unscopedSems0 d ∗ arrays1 m d)

theorem phi1_exit (d : Dev nD) :
    (dats m 0 d).Φ (Fin.last cfg0.N) ⊢ iprop(finish m d ∗ Pipeline.ownSems0 osem d ∗ Pipeline.scopedRest cfg0.spec d) := by
  rw [show (dats m 0 d).Φ (Fin.last cfg0.N) = Φ₁ m d from rfl, scopedRest0_eq, ownSems0_eq]
  unfold Φ₁ finish scratch some0
  rw [unscopedSems0_eq]
  iintro ⟨Ha, Hs, Hl, Hx, HB⟩
  isplitl [HB Ha]
  · isplitl [HB]; · iexact HB
    iexact Ha
  isplitl [Hl Hx]
  · isplitl [Hl]; · iexact Hl
    iexact Hx
  iexact Hs

theorem waits (d : Dev nD) : (levAts L lv : sProp 𝕄) ⊢ Pipeline.cellsWaits cfgs (dats m) () 0 d :=
  Pipeline.cellsWaits_intro cfgs (dats m) () 0 d fun w _ _ => w.elim0

/-- A device's final state: the barrier semaphore at zero, the argument as it was, the result filled. -/
def QY (d : Dev nD) (s : MemSt nD τ sig (Elt F)) : Prop :=
  (∀ sm : SemLoc sig, sm.isScoped .tc = false → s.sem ((d : Thread nD τ), sm) = 0)
    ∧ s.mem ((d : Thread nD τ).loc main_arg0) = m ((d : Thread nD τ).loc main_arg0)
    ∧ s.mem ((d : Thread nD τ).loc main_v1) = outF m d

theorem launch_split (a : UR sig nD τ) (b : UB) : (ownU ((a, (b, 1)) : UU) : sProp 𝕄) ⊢ iprop(BI.own (EP a) ∗ BI.own (ER b)) :=
  BI.own_op_elim ((uEmb (nD := nD) (sig := sig) (Ix := Unit) (Val := Elt F) (Name := ℕ) (U := UU) (Lvl := ℕ)).toEmb.op_of_mem
    (Prod.mk_mem_op (URA.mem_op_one a) (URA.mem_one_op (b, (1 : Counters)))))

/-- A device's final state read off what it leaves. -/
theorem read_off (d : Dev nD) (s' : Phys nD τ sig (Elt F)) :
    iprop(finish m d ∗ emp ∗ SI s') ⊢ (|={Set.univ}=> iprop(⌜QY m d s'.mem⌝ ∗ SI s') : sProp 𝕄) := by
  unfold finish arrays1
  iintro ⟨⟨Hu, Hx, Ho⟩, -, HSI⟩
  icombine HSI Hx gives %hx
  icombine HSI Ho gives %ho
  imod (Pipeline.unscopedSems0_read (X := unscopedSems0 d) (c := d) fupd_intro s') $$ [Hu HSI] with ⟨%hu, HSI⟩
  · isplitl [Hu] <;> iassumption
  imodintro
  isplitr
  · ipureintro; exact ⟨hu, funext fun i => hx i (Finset.mem_univ i), funext fun i => ho i (Finset.mem_univ i)⟩
  iexact HSI

/-! ## The run -/

set_option maxRecDepth 65536 in
/-- From any memory with counters at zero, every run of the program ends, and at its end every device's argument is as it
    was, its result is filled, and every semaphore is at zero. -/
theorem run_main (ρ : Dev nD → PrngReg) : θ_run defs (onTc (τ := τ) (main (F := F))) ⟨m, fun _ => 0, ρ⟩
    (fun r => (∀ d : Dev nD, r.2.mem ((d : Thread nD τ).loc main_arg0) = m ((d : Thread nD τ).loc main_arg0)
      ∧ r.2.mem ((d : Thread nD τ).loc main_v1) = outF m d) ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := fun w => w.elim0) (harr := arr_whole0) (hstage := stage_whole0) (hshare := fun _ w => w.elim0)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (launch_split _ _) $$ Hu
      icases H with ⟨HP, HX⟩
      imod (fund_all m) $$ HX with HG
      imodintro
      isplitl [HP] <;> iassumption)
    (hglob := glob m)
    (hA := fun _ w => w.elim0) (hpf := fun _ k => k.elim0)
    (X := start m) (Y := finish m) (Z := fun _ => iprop(emp))
    (hX := start_intro m ρ) (hin := phi0_intro m) (hout := phi1_exit m)
    (QY := QY m) (hY := read_off m)
    (hQ := fun _ h hs => ⟨fun d => (h d).2.2.2, sem_eq_zero hs fun d => (h d).2.2.1⟩)

end Cert.KernelIdeal.Ring

end
-- ==== Proof.KernelIdealValue.lean ====
/-
What the result holds: the whole argument, rounded.
-/
module

public import proofs.«01_k».proof.Proof.KernelIdealSplit
public import Idealize.ShloMosaic.Lib.Layout

@[expose] public section

noncomputable section

namespace Cert.KernelIdeal.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

local notation "𝕄" => MT nD τ sig Unit (Elt F) ℕ UU ℕ

variable (m : (ℓ : Loc nD τ sig) → Buf (Elt F) ℓ)

/-- The device a row's chunk comes from has the block of the argument that holds the row. -/
theorem srcD_block (d : Dev nD) (j : Fin 64) : Layout.meshLin [2, 2, 4] (srcD d j).val [1] = j.val / 32 := by
  revert d j; decide +kernel

/-- The block of the whole argument that device `e` holds. -/
abbrev blockOf (e : Dev nD) (X : S65536x1024.Idx → Elt F .f32) : S32768x1024.Idx → Elt F .f32 :=
  Layout.blockN ⟨2, ![32768, 1024]⟩ ⟨2, ![65536, 1024]⟩ (Layout.meshBlock [2, 2, 4] ![[1], []] e) X

/-- Place `y` of chunk `jx j` of the block that `srcD d j` holds is place `y` of chunk `j` of the whole. -/
theorem blockOf_chunk (d : Dev nD) (j : Fin 64) (X : S65536x1024.Idx → Elt F .f32) (y : S1024x1024.Idx) :
    blockOf (srcD d j) X ((xC (jx j)).view.emb y) = X ((oC j).view.emb y) := by
  have h0 : (y 0).val < 1024 := (y 0).isLt
  have hb := srcD_block d j
  refine congrArg X (funext fun b => Fin.ext ?_)
  match b with
  | ⟨0, _⟩ =>
    show Layout.meshLin [2, 2, 4] (srcD d j).val [1] * 32768 + (1024 * (j.val % 32) + 1 * (y 0).val) = 1024 * j.val + 1 * (y 0).val
    rw [hb]; omega
  | ⟨1, _⟩ =>
    show 0 * 1024 + (0 + 1 * (y 1).val) = 0 + 1 * (y 1).val
    omega

/-- Every place of the result is a place of a chunk. -/
theorem mem_chunk (x : S65536x1024.Idx) : ∃ (j : Fin 64) (y : S1024x1024.Idx), (oC j).view.emb y = x := by
  obtain ⟨y, -, hy⟩ := Finset.mem_map.mp ((Finset.ext_iff.mp (set_oC ⟨_, (chunk_mem (n := 64) (x 0).isLt).1⟩) x).mpr (mem_oC x))
  exact ⟨_, y, hy⟩

/-- Where every device holds its block of `X`, every device's result is `X` rounded to the narrower format. -/
theorem outF_eq (X : S65536x1024.Idx → Elt F .f32) (hX : ∀ e : Dev nD, m ((e : Thread nD τ).loc main_arg0) = blockOf e X) (d : Dev nD) :
    outF m d = (truncf .bf16 X bitsLt_bf16_f32 : S65536x1024.Idx → Elt F .bf16) := by
  funext x
  obtain ⟨j, y, rfl⟩ := mem_chunk x
  rw [outF_emb]
  have e : xt m (srcD d j) (jx j) y = X ((oC j).view.emb y) := by
    unfold xt
    rw [← blockOf_chunk d j X y, ← hX (srcD d j)]
    rfl
  exact congrArg (fun v : F .f32 => FloatOps.truncf (F := F) .bf16 bitsLt_bf16_f32 v) e

end Cert.KernelIdeal.Ring

end
-- ==== Proof.lean ====
/- The certificate's claims, each from the run of its program: the kernel's (both readings) in Proof/KernelLaunch.lean and
   Proof/KernelIdealLaunch.lean, the reference's in Proof/Gen/ReferenceIdeal/Run.lean. That the kernel's result is the
   reference's is Proof/KernelIdealValue.lean. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.KernelLaunch
public import proofs.«01_k».proof.Proof.KernelIdealLaunch
public import proofs.«01_k».proof.Proof.KernelIdealValue
public import Idealize.ShloMosaic.Adequacy
public import Idealize.ShloMosaic.Init

@[expose] public section

noncomputable section

namespace Cert.Proof

open Idealize.ShloMosaic Idealize.SL.Sem

/-- The kernel as printed ends, its argument unchanged, every semaphore at zero. -/
theorem frame_kernel : Cert.quiescent_Kernel := fun m g _ =>
  (θ_run Cert.Kernel.defs _ _).mono (fun _ h => ⟨fun c => (h.1 c).1, h.2⟩) (Cert.Kernel.Ring.run_main (F := Bits) m g)

/-- Read over the extended reals, likewise. -/
theorem frame_kernelIdeal : Cert.quiescent_KernelIdeal := fun m g _ =>
  (θ_run Cert.KernelIdeal.defs _ _).mono (fun _ h => ⟨fun c => (h.1 c).1, h.2⟩) (Cert.KernelIdeal.Ring.run_main (F := Ideal) m g)

/-- The reference ends, its argument unchanged; it has no semaphore. -/
theorem frame_referenceIdeal : Cert.quiescent_ReferenceIdeal := fun m g _ =>
  (θ_run Cert.ReferenceIdeal.defs _ _).mono (fun r h => ⟨fun c => (h c).2, sem_eq_zero_of_no_sems (by decide) r.2⟩)
    (Cert.ReferenceIdeal.Value.run (F := Ideal) m g)

/-- Where the devices hold their blocks of the reference's argument, every device ends with the whole of the reference's
    result. -/
theorem algebraic : Cert.algebraic_KernelIdeal_ReferenceIdeal := by
  intro m g m' g' _ hagree
  refine ⟨_, ?_, (θ_run Cert.ReferenceIdeal.defs _ _).mono (fun _ h => h 0) (Cert.ReferenceIdeal.Value.run (F := Ideal) m' g')⟩
  exact (θ_run Cert.KernelIdeal.defs _ _).mono
    (fun _ h c => ⟨(h.1 c).2.trans (Cert.KernelIdeal.Ring.outF_eq m _ hagree c), (h.1 c).1⟩)
    (Cert.KernelIdeal.Ring.run_main (F := Ideal) m g)

/-- All the claims. -/
theorem claim : Cert.Claim :=
  ⟨Cert.Kernel.Gen.facts, Cert.KernelIdeal.Gen.facts, Cert.ReferenceIdeal.Gen.facts,
    frame_kernel, frame_kernelIdeal, frame_referenceIdeal, trivial, algebraic⟩

end Cert.Proof

end
